-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v14_0)) (v1 : (c : Dev Cert.Kernel6Ideal.nD) → Buf (Elt Ideal) ((c.tc : Thread Cert.Kernel6Ideal.nD Cert.Kernel6Ideal.τ).loc Cert.Kernel6Ideal.main_v14_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v14_0) = v0 c
          ∧ r.2.mem ((c.tc : Thread Cert.Kernel6Ideal.nD Cert.Kernel6Ideal.τ).loc Cert.Kernel6Ideal.main_v14_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)) (v6 : (c : Dev Cert.Kernel7Ideal.nD) → Buf (Elt Ideal) ((c.tc : Thread Cert.Kernel7Ideal.nD Cert.Kernel7Ideal.τ).loc Cert.Kernel7Ideal.main_v4_6)) (v7 : (c : Dev Cert.Kernel7Ideal.nD) → Buf (Elt Ideal) ((c.tc : Thread Cert.Kernel7Ideal.nD Cert.Kernel7Ideal.τ).loc Cert.Kernel7Ideal.main_v4_7)) (v8 : (c : Dev Cert.Kernel7Ideal.nD) → Buf (Elt Ideal) ((c.tc : Thread Cert.Kernel7Ideal.nD Cert.Kernel7Ideal.τ).loc Cert.Kernel7Ideal.main_v4_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_v4_6) = v6 c
          ∧ r.2.mem ((c.tc : Thread Cert.Kernel7Ideal.nD Cert.Kernel7Ideal.τ).loc Cert.Kernel7Ideal.main_v4_7) = v7 c
          ∧ r.2.mem ((c.tc : Thread Cert.Kernel7Ideal.nD Cert.Kernel7Ideal.τ).loc Cert.Kernel7Ideal.main_v4_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v100) = v0 c
          ∧ r.2.mem ((c.tc : Thread Cert.Reference7Ideal.nD Cert.Reference7Ideal.τ).loc Cert.Reference7Ideal.main_v101) = v1 c
          ∧ r.2.mem ((c.tc : Thread Cert.Reference7Ideal.nD Cert.Reference7Ideal.τ).loc Cert.Reference7Ideal.main_v102) = v2 c
          ∧ r.2.mem ((c.tc : Thread Cert.Reference7Ideal.nD Cert.Reference7Ideal.τ).loc Cert.Reference7Ideal.main_v103) = v3 c
          ∧ r.2.mem ((c.tc : Thread Cert.Reference7Ideal.nD Cert.Reference7Ideal.τ).loc Cert.Reference7Ideal.main_v104) = v4 c
          ∧ r.2.mem ((c.tc : Thread Cert.Reference7Ideal.nD Cert.Reference7Ideal.τ).loc Cert.Reference7Ideal.main_v105) = v5 c
          ∧ r.2.mem ((c.tc : Thread Cert.Reference7Ideal.nD Cert.Reference7Ideal.τ).loc Cert.Reference7Ideal.main_v83) = v6 c
          ∧ r.2.mem ((c.tc : Thread Cert.Reference7Ideal.nD Cert.Reference7Ideal.τ).loc Cert.Reference7Ideal.main_v60) = v7 c
          ∧ r.2.mem ((c.tc : Thread Cert.Reference7Ideal.nD Cert.Reference7Ideal.τ).loc Cert.Reference7Ideal.main_v106) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v18) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v5) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def preserves_Kernel13_Kernel13Ideal : Prop :=
  True

def preserves_Kernel14_Kernel14Ideal : Prop :=
  True

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hKernel13 : Cert.Kernel13.Facts) (hKernel13Ideal : Cert.Kernel13Ideal.Facts) (hKernel14 : Cert.Kernel14.Facts) (hKernel14Ideal : Cert.Kernel14Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel14 (hKernel14 := hKernel14)
    ∧ quiescent_Kernel14Ideal (hKernel14Ideal := hKernel14Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ preserves_Kernel13_Kernel13Ideal
    ∧ preserves_Kernel14_Kernel14Ideal
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 32
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x4096, .bf16⟩
  | .hbm, ⟨22, _⟩ => ⟨S1024x4x1024, .f32⟩
  | .hbm, ⟨23, _⟩ => ⟨S4x1024x1024, .f32⟩
  | .hbm, ⟨24, _⟩ => ⟨S4x1024x1024, .bf16⟩
  | .hbm, ⟨25, _⟩ => ⟨S4x1024x1024, .f32⟩
  | .hbm, ⟨26, _⟩ => ⟨S4x1024x1024, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .hbm, ⟨30, _⟩ => ⟨S4096x4096, .bf16⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_22 : BitVec 32 := 0#32
  let v33 : BitVec 1 := Scalar.cmpi .ne v32 c0_i32_22
  v33

def k0_cond2 (i : grid0.Coords) : BitVec 1 :=
  let arg0 : BitVec 32 := BitVec.ofNat 32 (i 0).val
  let c0_i32_19 : BitVec 32 := 0#32
  let v26 : BitVec 1 := Scalar.cmpi .eq arg0 c0_i32_19
  let arg1 : BitVec 32 := BitVec.ofNat 32 (i 1).val
  let c0_i32_20 : BitVec 32 := 0#32
  let v27 : BitVec 1 := Scalar.cmpi .eq arg1 c0_i32_20
  let v28 : BitVec 1 := Scalar.andi v26 v27
  let v29 : BitVec 32 := Scalar.extui v28
  let c0_i32_21 : BitVec 32 := 0#32
  let v30 : BitVec 1 := Scalar.cmpi .ne v29 c0_i32_21
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .i1⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x1024, .f32⟩
  | .hbm, ⟨44, _⟩ => ⟨S1024x4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_11 : BitVec 32 := 0#32
  let v19 : BitVec 1 := Scalar.cmpi .eq arg2 c0_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | .hbm, ⟨12, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x3072 : Shape := ⟨2, ![4096, 3072]⟩
abbrev S4096x512 : Shape := ⟨2, ![4096, 512]⟩
abbrev S1x4096x512 : Shape := ⟨3, ![1, 4096, 512]⟩
abbrev S3x4096x512 : Shape := ⟨3, ![3, 4096, 512]⟩
abbrev S4x1024x768 : Shape := ⟨3, ![4, 1024, 768]⟩
abbrev S1024x1024 : Shape := ⟨2, ![1024, 1024]⟩
abbrev S3x1024x512 : Shape := ⟨3, ![3, 1024, 512]⟩
abbrev S1024x512 : Shape := ⟨2, ![1024, 512]⟩
abbrev S1x1024x512 : Shape := ⟨3, ![1, 1024, 512]⟩
abbrev S1x1024x256 : Shape := ⟨3, ![1, 1024, 256]⟩
abbrev S1024x256 : Shape := ⟨2, ![1024, 256]⟩

abbrev nBuf : Space → Nat
  | .hbm => 15
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x3072, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S1x4096x512, .bf16⟩
  | .hbm, ⟨7, _⟩ => ⟨S1x4096x512, .bf16⟩
  | .hbm, ⟨8, _⟩ => ⟨S1x4096x512, .bf16⟩
  | .hbm, ⟨9, _⟩ => ⟨S3x4096x512, .bf16⟩
  | .hbm, ⟨10, _⟩ => ⟨S4096x1024, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S3x1024x512, .bf16⟩
  | .local _ .vmem, ⟨3, _⟩ => ⟨S3x1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S4x1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S1024x4x768, .f32⟩
  | .hbm, ⟨8, _⟩ => ⟨S4x1024x768, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x3072 : Shape := ⟨2, ![4096, 3072]⟩
abbrev S4096x1024 : Shape := ⟨2, ![4096, 1024]⟩
abbrev S1x1024 : Shape := ⟨2, ![1, 1024]⟩
abbrev S1024x3072 : Shape := ⟨2, ![1024, 3072]⟩
abbrev S4096x512 : Shape := ⟨2, ![4096, 512]⟩
abbrev S1x4096x512 : Shape := ⟨3, ![1, 4096, 512]⟩
abbrev S3x4096x512 : Shape := ⟨3, ![3, 4096, 512]⟩
abbrev S1024x4x768 : Shape := ⟨3, ![1024, 4, 768]⟩
abbrev S4x1024x768 : Shape := ⟨3, ![4, 1024, 768]⟩
abbrev S3x512x512 : Shape := ⟨3, ![3, 512, 512]⟩
abbrev S512x512 : Shape := ⟨2, ![512, 512]⟩
abbrev S512x1024 : Shape := ⟨2, ![512, 1024]⟩
abbrev S1x512x512 : Shape := ⟨3, ![1, 512, 512]⟩
abbrev S1x1024x512 : Shape := ⟨3, ![1, 1024, 512]⟩
abbrev S1024x512 : Shape := ⟨2, ![1024, 512]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 21
  | .vmem => 17
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x3072, .f32⟩
  | .hbm, ⟨5, _⟩ => ⟨S4096x3072, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S1x4096x512, .bf16⟩
  | .hbm, ⟨10, _⟩ => ⟨S1x4096x512, .bf16⟩
  | .hbm, ⟨11, _⟩ => ⟨S1x4096x512, .bf16⟩
  | .hbm, ⟨12, _⟩ => ⟨S3x4096x512, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S1024x4x768, .f32⟩
  | .hbm, ⟨17, _⟩ => ⟨S4x1024x768, .f32⟩
  | .hbm, ⟨18, _⟩ => ⟨S4x1024x768, .bf16⟩
  | .hbm, ⟨19, _⟩ => ⟨S4096x1024, .f32⟩
  | .hbm, ⟨20, _⟩ => ⟨S1x1024, .f32⟩
  | .local _ .vmem, ⟨0, _⟩ => ⟨S3x512x512, .bf16⟩
  | .local _ .vmem, ⟨1, _⟩ => ⟨S3x512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S4x1024x768, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x3072 : Shape := ⟨2, ![4096, 3072]⟩
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel7.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S256x4x256 : Shape := ⟨3, ![256, 4, 256]⟩
abbrev S4x256x256 : Shape := ⟨3, ![4, 256, 256]⟩
abbrev S1x128 : Shape := ⟨2, ![1, 128]⟩
abbrev S512x1024 : Shape := ⟨2, ![512, 1024]⟩
abbrev S512x256 : Shape := ⟨2, ![512, 256]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 20
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S256x1024, .f32⟩
  | .hbm, ⟨7, _⟩ => ⟨S1024x1024, .bf16⟩
  | .hbm, ⟨8, _⟩ => ⟨S256x4x256, .f32⟩
  | .hbm, ⟨9, _⟩ => ⟨S4x256x256, .f32⟩
  | .hbm, ⟨10, _⟩ => ⟨S4x256x256, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x256, .bf16⟩
  | .hbm, ⟨17, _⟩ => ⟨S1x1024, .f32⟩
  | .hbm, ⟨18, _⟩ => ⟨S1x1024, .f32⟩
  | .hbm, ⟨19, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S4x256x256, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x256, .bf16⟩
  | .local _ .vmem, ⟨21, _⟩ => ⟨S512x256, .bf16⟩
  | .local _ .vmem, ⟨22, _⟩ => ⟨S1x1024, .f32⟩
  | .local _ .vmem, ⟨23, _⟩ => ⟨S1x1024, .f32⟩
  | .local _ .vmem, ⟨24, _⟩ => ⟨S1x128, .f32⟩
  | .local _ .vmem, ⟨25, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev main_v4_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1x1024, .f32⟩
  | 5 => ⟨S1024x1024, .f32⟩
  | 6 => ⟨S256x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x1024, .f32⟩

abbrev hbmTy0_1 (i : Nat) : BufTy := match i % 128 with
  | 0 => ⟨S4096, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .bf16⟩
  | 8 => ⟨S4096x1024, .bf16⟩
  | 9 => ⟨S4096x1024, .bf16⟩
  | 10 => ⟨S4096x1024, .bf16⟩
  | 11 => ⟨S4096x256, .bf16⟩
  | 12 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_cst_16 : Ref sig .tc := ⟨.hbm, 76, rfl⟩
abbrev main_v52 : Ref sig .tc := ⟨.hbm, 77, rfl⟩
abbrev main_v53 : Ref sig .tc := ⟨.hbm, 78, rfl⟩
abbrev main_cst_17 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_19 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_20 : Ref sig .tc := ⟨.hbm, 97, rfl⟩
abbrev main_v69 : Ref sig .tc := ⟨.hbm, 98, rfl⟩
abbrev main_v70 : Ref sig .tc := ⟨.hbm, 99, rfl⟩
abbrev main_cst_21 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_22 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_24 : Ref sig .tc := ⟨.hbm, 124, rfl⟩
abbrev main_v92 : Ref sig .tc := ⟨.hbm, 125, rfl⟩
abbrev main_v93 : Ref sig .tc := ⟨.hbm, 126, rfl⟩
abbrev main_cst_25 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S4x1024x1024, .bf16⟩
  | .hbm, ⟨9, _⟩ => ⟨S4096x1024, .f32⟩
  | .hbm, ⟨10, _⟩ => ⟨S4096x4096, .bf16⟩
  | .hbm, ⟨11, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x4096, .bf16⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_cst : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Kernel9.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S128x128 : Shape := ⟨2, ![128, 128]⟩
abbrev S512x128 : Shape := ⟨2, ![512, 128]⟩
abbrev S1x128 : Shape := ⟨2, ![1, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S1x512, .f32⟩
  | .hbm, ⟨3, _⟩ => ⟨S1024x1024, .f32⟩
  | .hbm, ⟨4, _⟩ => ⟨S4096x1024, .bf16⟩
  | .hbm, ⟨5, _⟩ => ⟨S1024x1024, .bf16⟩
  | .hbm, ⟨6, _⟩ => ⟨S4096x512, .f32⟩
  | .hbm, ⟨7, _⟩ => ⟨S4096x512, .f32⟩
  | .hbm, ⟨8, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel10.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1x1024x1024, .f32⟩
  | .hbm, ⟨5, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1x1024x1024, .f32⟩
  | .local _ .vmem, ⟨3, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x256 : Shape := ⟨2, ![4096, 256]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S4096x256, .bf16⟩
  | .hbm, ⟨3, _⟩ => ⟨S4096x1024, .bf16⟩
  | .hbm, ⟨4, _⟩ => ⟨S4x256x256, .f32⟩
  | .hbm, ⟨5, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .f32⟩
  | .local _ .vmem, ⟨4, _⟩ => ⟨S1x256x256, .f32⟩
  | .local _ .vmem, ⟨5, _⟩ => ⟨S1x256x256, .bf16⟩
  | .local _ .vmem, ⟨6, _⟩ => ⟨S1x256x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_10 : BitVec 32 := 0#32
  let v14 : BitVec 1 := Scalar.cmpi .eq arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .f32⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S1024x256, .f32⟩
  | .hbm, ⟨6, _⟩ => ⟨S256x1024, .f32⟩
  | .hbm, ⟨7, _⟩ => ⟨S256x4x256, .f32⟩
  | .hbm, ⟨8, _⟩ => ⟨S4x256x256, .f32⟩
  | .hbm, ⟨9, _⟩ => ⟨S4x256x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x1024 : Shape := ⟨2, ![4096, 1024]⟩
abbrev S1x1024 : Shape := ⟨2, ![1, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4096x3072 : Shape := ⟨2, ![4096, 3072]⟩
abbrev S16x256x512 : Shape := ⟨3, ![16, 256, 512]⟩
abbrev S16x512x256 : Shape := ⟨3, ![16, 512, 256]⟩
abbrev S512x1024 : Shape := ⟨2, ![512, 1024]⟩
abbrev S512x3072 : Shape := ⟨2, ![512, 3072]⟩
abbrev S2x256x512 : Shape := ⟨3, ![2, 256, 512]⟩
abbrev S2x512x256 : Shape := ⟨3, ![2, 512, 256]⟩
abbrev S256x1024 : Shape := ⟨2, ![256, 1024]⟩
abbrev S8x512x128 : Shape := ⟨3, ![8, 512, 128]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩
abbrev S512x128 : Shape := ⟨2, ![512, 128]⟩
abbrev S1x512x128 : Shape := ⟨3, ![1, 512, 128]⟩
abbrev S1x8x128 : Shape := ⟨3, ![1, 8, 128]⟩
abbrev S8x128 : Shape := ⟨2, ![8, 128]⟩
abbrev S256x512 : Shape := ⟨2, ![256, 512]⟩
abbrev S1x256x512 : Shape := ⟨3, ![1, 256, 512]⟩
abbrev S512x256 : Shape := ⟨2, ![512, 256]⟩
abbrev S1x512x256 : Shape := ⟨3, ![1, 512, 256]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S1024x4x768, .f32⟩
  | .hbm, ⟨4, _⟩ => ⟨S4x1024x768, .f32⟩
  | .hbm, ⟨5, _⟩ => ⟨S4x1024x768, .bf16⟩
  | .hbm, ⟨6, _⟩ => ⟨S4096x3072, .f32⟩
  | .hbm, ⟨7, _⟩ => ⟨S4096x1024, .bf16⟩
  | .hbm, ⟨8, _⟩ => ⟨S16x256x512, .bf16⟩
  | .hbm, ⟨9, _⟩ => ⟨S16x256x512, .bf16⟩
  | .hbm, ⟨10, _⟩ => ⟨S16x512x256, .bf16⟩
  | .hbm, ⟨11, _⟩ => ⟨S16x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x768, .bf16⟩
  | .local _ .vmem, ⟨4, _⟩ => ⟨S512x3072, .f32⟩
  | .local _ .vmem, ⟨5, _⟩ => ⟨S512x3072, .f32⟩
  | .local _ .vmem, ⟨6, _⟩ => ⟨S512x1024, .bf16⟩
  | .local _ .vmem, ⟨7, _⟩ => ⟨S512x1024, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S2x256x512, .bf16⟩
  | .local _ .vmem, ⟨12, _⟩ => ⟨S2x512x256, .bf16⟩
  | .local _ .vmem, ⟨13, _⟩ => ⟨S2x512x256, .bf16⟩
  | .local _ .vmem, ⟨14, _⟩ => ⟨S2x512x256, .bf16⟩
  | .local _ .vmem, ⟨15, _⟩ => ⟨S2x512x256, .bf16⟩
  | .local _ .vmem, ⟨16, _⟩ => ⟨S256x1024, .f32⟩
  | .local _ .vmem, ⟨17, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel13.lean ====
abbrev S4096x512 : Shape := ⟨2, ![4096, 512]⟩
abbrev S4096x1024 : Shape := ⟨2, ![4096, 1024]⟩
abbrev S1x512 : Shape := ⟨2, ![1, 512]⟩
abbrev S1024x1024 : Shape := ⟨2, ![1024, 1024]⟩
abbrev S512x512 : Shape := ⟨2, ![512, 512]⟩
abbrev S512x1024 : Shape := ⟨2, ![512, 1024]⟩
abbrev S128x128 : Shape := ⟨2, ![128, 128]⟩
abbrev S512x128 : Shape := ⟨2, ![512, 128]⟩
abbrev S1x128 : Shape := ⟨2, ![1, 128]⟩

abbrev nBuf : Space → Nat
  | .hbm => 9
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x512, .f32⟩
  | .hbm, ⟨4, _⟩ => ⟨S1024x1024, .f32⟩
  | .hbm, ⟨5, _⟩ => ⟨S4096x512, .bf16⟩
  | .hbm, ⟨6, _⟩ => ⟨S1024x1024, .bf16⟩
  | .hbm, ⟨7, _⟩ => ⟨S4096x1024, .f32⟩
  | .hbm, ⟨8, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14.lean ====
abbrev S4096x3072 : Shape := ⟨2, ![4096, 3072]⟩
abbrev S3x512 : Shape := ⟨2, ![3, 512]⟩
abbrev S1x512 : Shape := ⟨2, ![1, 512]⟩
abbrev S3x4x128 : Shape := ⟨3, ![3, 4, 128]⟩
abbrev S4x3x128 : Shape := ⟨3, ![4, 3, 128]⟩
abbrev S_ : Shape := ⟨0, ![]⟩
abbrev S4x16x128 : Shape := ⟨3, ![4, 16, 128]⟩
abbrev S4096x512 : Shape := ⟨2, ![4096, 512]⟩
abbrev S4096x128 : Shape := ⟨2, ![4096, 128]⟩
abbrev S1x16x128 : Shape := ⟨3, ![1, 16, 128]⟩
abbrev S1x128 : Shape := ⟨2, ![1, 128]⟩
abbrev S128x128 : Shape := ⟨2, ![128, 128]⟩
abbrev S1x1x128 : Shape := ⟨3, ![1, 1, 128]⟩
abbrev S512x128 : Shape := ⟨2, ![512, 128]⟩
abbrev S8x128 : Shape := ⟨2, ![8, 128]⟩
abbrev S520x128 : Shape := ⟨2, ![520, 128]⟩

abbrev nBuf : Space → Nat
  | .hbm => 9
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S3x512, .f32⟩
  | .hbm, ⟨2, _⟩ => ⟨S1x512, .f32⟩
  | .hbm, ⟨3, _⟩ => ⟨S3x4x128, .f32⟩
  | .hbm, ⟨4, _⟩ => ⟨S4x3x128, .f32⟩
  | .hbm, ⟨5, _⟩ => ⟨S_, .i32⟩
  | .hbm, ⟨6, _⟩ => ⟨S_, .f32⟩
  | .hbm, ⟨7, _⟩ => ⟨S4x16x128, .f32⟩
  | .hbm, ⟨8, _⟩ => ⟨S4096x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x16x128, .f32⟩
  | .local _ .vmem, ⟨7, _⟩ => ⟨S1x16x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_19 : BitVec 32 := 0#32
  let c8_i32 : BitVec 32 := 8#32
  let v61 : BitVec 32 := Scalar.addi c0_i32_19 c8_i32
  let c1_i32_20 : BitVec 32 := 1#32
  ⟨c0_i32_19, v61, c1_i32_20⟩
def k0_mult1 (k0_t1 : Fin k0_t1_loop.trips) : BitVec 32 :=
  let c0_i32_19 : BitVec 32 := 0#32
  let c1_i32_20 : BitVec 32 := 1#32
  let arg7 : BitVec 32 := Scf.iv c0_i32_19 c1_i32_20 k0_t1
  let c512_i32 : BitVec 32 := 512#32
  let v62 : BitVec 32 := Scalar.muli arg7 c512_i32
  v62
def k0_mult2 (k0_t1 : Fin k0_t1_loop.trips) : BitVec 32 :=
  let c0_i32_19 : BitVec 32 := 0#32
  let c1_i32_20 : BitVec 32 := 1#32
  let arg7 : BitVec 32 := Scf.iv c0_i32_19 c1_i32_20 k0_t1
  let c512_i32 : BitVec 32 := 512#32
  let v62 : BitVec 32 := Scalar.muli arg7 c512_i32
  let v63 : BitVec 32 := v62
  let c8_i32_22 : BitVec 32 := 8#32
  let v64 : BitVec 32 := Scalar.subi v63 c8_i32_22
  let c0_i32_23 : BitVec 32 := 0#32
  let v65 : BitVec 32 := Scalar.maxsi v64 c0_i32_23
  v65
def k0_off1 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c512_i32 : BitVec 32 := 512#32
  let v62 : BitVec 32 := Scalar.muli arg7 c512_i32
  let v63 : BitVec 32 := v62
  let v67 : Index := Scalar.indexCast v63
  let c0_24 : Index := 0#32
  ![v67.toNat, 0]
def k0_off2 (k0_t1 : Fin k0_t1_loop.trips) : Fin 2 → Nat :=
  let c0_i32_19 : BitVec 32 := 0#32
  let c1_i32_20 : BitVec 32 := 1#32
  let arg7 : BitVec 32 := Scf.iv c0_i32_19 c1_i32_20 k0_t1
  let c512_i32 : BitVec 32 := 512#32
  let v62 : BitVec 32 := Scalar.muli arg7 c512_i32
  let v63 : BitVec 32 := v62
  let c8_i32_22 : BitVec 32 := 8#32
  let v64 : BitVec 32 := Scalar.subi v63 c8_i32_22
  let c0_i32_23 : BitVec 32 := 0#32
  let v65 : BitVec 32 := Scalar.maxsi v64 c0_i32_23
  let v66 : BitVec 32 := v65
  let v73 : Index := Scalar.indexCast v66
  let c0_27 : Index := 0#32
  ![v73.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.MlpBlocks.lean ====
/- The gradient of the squared-ReLU MLP: what each block of the call's arguments holds, and the gradient before the square. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim

@[expose] public section

set_option maxRecDepth 16384

noncomputable section

namespace Cert.MlpBwd

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

open Cert.Reference2Ideal.Read

/-- Which block each window holds at grid point `t`. -/
theorem idx : ∀ t : Fin cfg0.N, win0_0.index t = ![t.val / 4, 0] ∧ win0_1.index t = ![t.val / 4, 0] ∧ win0_2.index t = ![t.val / 4, 0] ∧ win0_3.index t = ![t.val / 4, t.val % 4] ∧ win0_4.index t = ![0, 0] ∧ win0_5.index t = ![t.val % 4, 0, 0] ∧ win0_6.index t = ![t.val % 4, 0, 0] ∧ win0_7.index t = ![t.val / 4, 0] ∧ win0_8.index t = ![t.val / 4, 0] ∧ win0_9.index t = ![t.val / 4, t.val % 4] ∧ win0_10.index t = ![0, 0] :=
  (by decide +kernel : ∀ t : Fin grid0.N, _)

/-- Row `r` of grid point `t`'s tokens as a row of the whole array. -/
abbrev row (t : Fin cfg0.N) (r : Fin 512) : Fin 4096 :=
  ⟨t.val / 4 * 512 + r.val, by have := r.isLt; have := lt_of_lt_of_eq t.isLt N_0; omega⟩

/-- Lane `k` of grid point `t`'s block of hidden units as a unit of the whole layer. -/
abbrev unit (t : Fin cfg0.N) (k : Fin 1024) : Fin 4096 :=
  ⟨t.val % 4 * 1024 + k.val, by have := k.isLt; omega⟩

/-- The five arguments on device `c`. -/
abbrev h1 (c : Dev nD) : FVec Ideal S4096x1024 .f32 := m ((c : Thread nD τ).loc main_arg0)
abbrev dh2 (c : Dev nD) : FVec Ideal S4096x1024 .f32 := m ((c : Thread nD τ).loc main_arg1)
abbrev g (c : Dev nD) : FVec Ideal S1x1024 .f32 := m ((c : Thread nD τ).loc main_arg2)
abbrev wu (c : Dev nD) : FVec Ideal S1024x4096 .f32 := m ((c : Thread nD τ).loc main_arg3)
abbrev wd (c : Dev nD) : FVec Ideal S4096x1024 .f32 := m ((c : Thread nD τ).loc main_arg4)

theorem blk0 (c : Dev nD) (t : Fin cfg0.N) (r : Fin 512) (k : Fin 1024) :
    iblk m c 0 t (ix2 r k) = dh2 m c (ix2 (row t r) k) := by
  blk_point [iblk, V, idx t]

theorem blk1 (c : Dev nD) (t : Fin cfg0.N) (r : Fin 512) (k : Fin 1024) :
    iblk m c 1 t (ix2 r k) = dh2 m c (ix2 (row t r) k) := by
  blk_point [iblk, V, idx t]

theorem blk2 (c : Dev nD) (t : Fin cfg0.N) (r : Fin 512) (k : Fin 1024) :
    iblk m c 2 t (ix2 r k) = h1 m c (ix2 (row t r) k) := by
  blk_point [iblk, V, idx t]

theorem blk4 (c : Dev nD) (t : Fin cfg0.N) (r : Fin 1) (k : Fin 1024) :
    iblk m c 4 t (ix2 r k) = g m c (ix2 r k) := by
  blk_point [iblk, V, idx t]

theorem blk5 (c : Dev nD) (t : Fin cfg0.N) (j : Fin 1) (r : Fin 1024) (k : Fin 1024) :
    iblk m c 5 t (ix3 j r k) = wu m c (ix2 r (unit t k)) := by
  blk_point [iblk, V, idx t]

theorem blk6 (c : Dev nD) (t : Fin cfg0.N) (j : Fin 1) (r : Fin 1024) (k : Fin 1024) :
    iblk m c 6 t (ix3 j r k) = wd m c (ix2 (unit t r) k) := by
  blk_point [iblk, V, idx t]

/-- The saved product before the square is the reference's. -/
theorem saved (c : Dev nD) : (V m c main_v13 : FVec Ideal S4096x4096 .bf16) = fun i => val_main_v15 (F := Ideal) (h1 m c) (g m c) (wu m c) i := by
  entry_read
  rfl

theorem blk3 (c : Dev nD) (t : Fin cfg0.N) (r : Fin 512) (k : Fin 1024) :
    iblk m c 3 t (ix2 r k) = val_main_v15 (F := Ideal) (h1 m c) (g m c) (wu m c) (ix2 (row t r) (unit t k)) := by
  have h : iblk m c 3 t (ix2 r k) = (V m c main_v13 : FVec Ideal S4096x4096 .bf16) (ix2 (row t r) (unit t k)) := by
    generalize hv : (V m c main_v13 : FVec Ideal S4096x4096 .bf16) = v
    have : V m c main_v13 = v := hv
    blk_point [iblk, this, idx t]
  rw [h, saved]

end Cert.MlpBwd
end
-- ==== Proof.Rms.lean ====
/- The gradient of the root-mean-square norm over the extended reals: two ways of writing it agree everywhere. -/
module

public import Idealize.ShloMosaic.PureOps.Ideal
public import Idealize.ShloMosaic.Init

@[expose] public section

noncomputable section

namespace Cert.Rms

open Idealize.ShloMosaic

/-- A real factor comes out of a sum of extended reals, when it is not negative. -/
theorem sum_mul_coe {ι : Type*} (s : Finset ι) (f : ι → EReal) {r : ℝ} (hr : 0 ≤ r) :
    ∑ x ∈ s, f x * (r : EReal) = (∑ x ∈ s, f x) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- A square is never negative. -/
theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

/-- Twice a real multiple. -/
theorem mul_coe_add_self (S : EReal) (a : ℝ) : S * (a : EReal) + S * (a : EReal) = S * ((2 * a : ℝ) : EReal) := by
  rcases le_total 0 a with h | h
  · rw [← EReal.left_distrib_of_nonneg (EReal.coe_nonneg.mpr h) (EReal.coe_nonneg.mpr h), ← EReal.coe_add, two_mul]
  · have h' : 0 ≤ -a := by linarith
    have := EReal.left_distrib_of_nonneg (c := -S) (EReal.coe_nonneg.mpr h') (EReal.coe_nonneg.mpr h')
    rw [EReal.coe_neg, neg_mul_neg, ← EReal.coe_neg, ← EReal.coe_add, show -a + -a = -(2 * a) by ring, EReal.coe_neg,
      neg_mul_neg] at this
    exact this.symm

variable {ι : Type*} [Fintype ι]

/-- A mean square that is not infinite has only real terms. -/
theorem real_of_sum (h : ι → EReal) (hq : ∑ x, h x * h x ≠ ⊤) (k : ι) : ∃ η : ℝ, h k = η := by
  have hle : h k * h k ≤ ∑ x, h x * h x := Finset.single_le_sum (f := fun x => h x * h x) (fun x _ => sq_nonneg (h x)) (Finset.mem_univ k)
  induction hk : h k with
  | bot => rw [hk] at hle; simp at hle; exact absurd hle hq
  | top => rw [hk] at hle; simp at hle; exact absurd hle hq
  | coe η => exact ⟨η, rfl⟩

/-- The reciprocal root mean square is a real number, never negative. -/
theorem rsqrt_ms (h : ι → EReal) {N e : EReal} {N' e' : ℝ} (hN : N = N') (hN' : 0 < N') (he : e = e') (he' : 0 < e') :
    (∑ x, h x * h x = ⊤ ∧ Ideal.div (∑ x, h x * h x) N + e = ⊤ ∧ Ideal.rsqrt (Ideal.div (∑ x, h x * h x) N + e) = 0)
    ∨ (∑ x, h x * h x ≠ ⊤ ∧ ∃ s : ℝ, 0 < s ∧ Ideal.div (∑ x, h x * h x) N + e = s
        ∧ Ideal.rsqrt (Ideal.div (∑ x, h x * h x) N + e) = (((Real.sqrt s)⁻¹ : ℝ) : EReal)) := by
  subst hN; subst he
  have hnn : 0 ≤ ∑ x, h x * h x := Finset.sum_nonneg fun x _ => sq_nonneg (h x)
  have h1 : (0 : ℝ) < 1 / N' := by positivity
  induction hq : ∑ x, h x * h x with
  | bot => rw [hq] at hnn; simp at hnn
  | top =>
    refine .inl ⟨rfl, ?_⟩
    have : Ideal.div ⊤ (N' : EReal) + (e' : EReal) = ⊤ := by
      rw [Ideal.div_coe hN'.ne', EReal.top_mul_coe_of_pos h1, EReal.top_add_coe]
    exact ⟨this, by rw [this]; exact Ideal.rsqrt_top⟩
  | coe q =>
    rw [hq] at hnn
    have hq0 : 0 ≤ q := EReal.coe_nonneg.mp hnn
    have hs : 0 < q * (1 / N') + e' := by positivity
    refine .inr ⟨EReal.coe_ne_top q, q * (1 / N') + e', hs, ?_⟩
    have : Ideal.div (q : EReal) (N' : EReal) + (e' : EReal) = ((q * (1 / N') + e' : ℝ) : EReal) := by
      rw [Ideal.div_coe hN'.ne']; push_cast; rfl
    exact ⟨this, by rw [this, Ideal.rsqrt_coe, if_neg hs.not_gt, if_neg hs.ne']⟩

/-- The gradient of the norm: the kernel's form, with the mean of the product subtracted, is the chain rule's. -/
theorem grad {N e mh : EReal} {N' e' : ℝ} (hN : N = N') (hN' : 0 < N') (he : e = e') (he' : 0 < e')
    (hm : mh = ((-(1 / 2) : ℝ) : EReal)) (h y : ι → EReal) (k : ι) :
    Ideal.rsqrt (Ideal.div (∑ x, h x * h x) N + e) *
        (y k - h k * Ideal.rsqrt (Ideal.div (∑ x, h x * h x) N + e) *
          Ideal.div (∑ x, y x * (h x * Ideal.rsqrt (Ideal.div (∑ x, h x * h x) N + e))) N)
      = y k * Ideal.rsqrt (Ideal.div (∑ x, h x * h x) N + e)
        + h k * Ideal.div ((∑ x, h x * y x) * (mh * Ideal.div (Ideal.rsqrt (Ideal.div (∑ x, h x * h x) N + e)) (Ideal.div (∑ x, h x * h x) N + e))) N
        + Ideal.div ((∑ x, h x * y x) * (mh * Ideal.div (Ideal.rsqrt (Ideal.div (∑ x, h x * h x) N + e)) (Ideal.div (∑ x, h x * h x) N + e))) N * h k := by
  have key := rsqrt_ms h hN hN' he he'
  rcases key with ⟨-, hs, hr⟩ | ⟨hq, s, hs0, hs, hr⟩
  · rw [hr, hs, hN]
    simp [Ideal.div, hN'.ne']
  · obtain ⟨η, hη⟩ := real_of_sum h hq k
    rw [hr, hs, hN, hm, hη]
    set ρ : ℝ := (Real.sqrt s)⁻¹ with hρ
    have hρ0 : 0 < ρ := by positivity
    have hρs : ρ * ρ = 1 / s := by
      rw [hρ, ← mul_inv, Real.mul_self_sqrt hs0.le, one_div]
    have e1 : ∑ x, y x * (h x * (ρ : EReal)) = (∑ x, h x * y x) * (ρ : EReal) := by
      rw [← sum_mul_coe _ _ hρ0.le]
      exact Finset.sum_congr rfl fun x _ => by rw [mul_comm (h x) (y x), mul_assoc]
    rw [e1]
    generalize ∑ x, h x * y x = S
    rw [Ideal.div_coe hN'.ne', Ideal.div_coe hN'.ne', Ideal.div_coe hs0.ne']
    have e2 : (η : EReal) * (ρ : EReal) * (S * (ρ : EReal) * ((1 / N' : ℝ) : EReal)) = S * ((η * ρ * ρ * (1 / N') : ℝ) : EReal) := by
      push_cast; ac_rfl
    have e3 : S * (((-(1 / 2) : ℝ) : EReal) * ((ρ : EReal) * ((1 / s : ℝ) : EReal))) * ((1 / N' : ℝ) : EReal)
        = S * ((-(1 / 2) * (ρ * (1 / s)) * (1 / N') : ℝ) : EReal) := by
      simp only [EReal.coe_mul]; ac_rfl
    rw [e2, e3]
    have e4 : (η : EReal) * (S * ((-(1 / 2) * (ρ * (1 / s)) * (1 / N') : ℝ) : EReal)) = S * ((η * (-(1 / 2) * (ρ * (1 / s)) * (1 / N')) : ℝ) : EReal) := by
      simp only [EReal.coe_mul]; ac_rfl
    rw [mul_comm _ (η : EReal), e4, add_assoc, mul_coe_add_self,
      EReal.mul_sub_of_nonneg_of_ne_top (EReal.coe_nonneg.mpr hρ0.le) (EReal.coe_ne_top ρ), mul_comm (ρ : EReal) (y k), sub_eq_add_neg]
    congr 1
    have e5 : (ρ : EReal) * (S * ((η * ρ * ρ * (1 / N') : ℝ) : EReal)) = S * ((ρ * (η * ρ * ρ * (1 / N')) : ℝ) : EReal) := by
      simp only [EReal.coe_mul]; ac_rfl
    rw [e5, ← mul_neg, ← EReal.coe_neg]
    congr 2
    rw [← hρs]; ring

/-- The number of features, as the programs write it. -/
theorem ofBits_1024 : Ideal.ofBits .f32 0x44800000#32 = ((1024 : ℝ) : EReal) := by
  simp [Ideal.ofBits, Ideal.ieee, -EReal.coe_mul]; norm_num

/-- Minus a half. -/
theorem ofBits_neg_half : Ideal.ofBits .f32 0xBF000000#32 = ((-(1 / 2) : ℝ) : EReal) := by
  simp [Ideal.ofBits, Ideal.ieee, -EReal.coe_mul, -EReal.coe_neg]; norm_num

/-- The norm's small constant is a positive real. -/
theorem ofBits_eps : ∃ e : ℝ, 0 < e ∧ Ideal.ofBits .f32 0x358637BD#32 = (e : EReal) := by
  refine ⟨(8796093 : ℝ) / 2 ^ 43, by positivity, ?_⟩
  simp [Ideal.ofBits, Ideal.ieee, -EReal.coe_mul]; norm_num

end Cert.Rms
end
-- ==== Proof.MlpPay.lean ====
/- The gradient of the squared-ReLU MLP: what each step of the body computes from its blocks, in the reference's terms. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import proofs.«01_k».proof.Proof.MlpBlocks
public import proofs.«01_k».proof.Proof.Rms

@[expose] public section

set_option maxRecDepth 16384

noncomputable section

namespace Cert.MlpBwd

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

open Cert.Reference2Ideal.Read

/-- The reference's gradient before the square, on device `c`. -/
abbrev dU (c : Dev nD) : FVec Ideal S4096x4096 .f32 := val_main_v27 (F := Ideal) (h1 m c) (dh2 m c) (g m c) (wu m c) (wd m c)

/-- The reference's gradient of the normed activations, on device `c`. -/
abbrev dM (c : Dev nD) : FVec Ideal S4096x1024 .f32 := val_main_v30 (F := Ideal) (h1 m c) (dh2 m c) (g m c) (wu m c) (wd m c)

/-- The block of window 0, as a function of its index. -/
theorem whole0 (c : Dev nD) (t : Fin cfg0.N) : (iblk m c 0 t : FVec Ideal S512x1024 .f32) = fun i => dh2 m c (ix2 (row t (i 0)) (i 1)) :=
  funext fun i => (congrArg (iblk m c 0 t : FVec Ideal S512x1024 .f32) (ix2_eta i).symm).trans (blk0 m c t (i 0) (i 1))

/-- The block of window 1, as a function of its index. -/
theorem whole1 (c : Dev nD) (t : Fin cfg0.N) : (iblk m c 1 t : FVec Ideal S512x1024 .bf16) = fun i => dh2 m c (ix2 (row t (i 0)) (i 1)) :=
  funext fun i => (congrArg (iblk m c 1 t : FVec Ideal S512x1024 .bf16) (ix2_eta i).symm).trans (blk1 m c t (i 0) (i 1))

/-- The block of window 2, as a function of its index. -/
theorem whole2 (c : Dev nD) (t : Fin cfg0.N) : (iblk m c 2 t : FVec Ideal S512x1024 .f32) = fun i => h1 m c (ix2 (row t (i 0)) (i 1)) :=
  funext fun i => (congrArg (iblk m c 2 t : FVec Ideal S512x1024 .f32) (ix2_eta i).symm).trans (blk2 m c t (i 0) (i 1))

/-- The block of window 3, as a function of its index. -/
theorem whole3 (c : Dev nD) (t : Fin cfg0.N) : (iblk m c 3 t : FVec Ideal S512x1024 .bf16) = fun i => val_main_v15 (F := Ideal) (h1 m c) (g m c) (wu m c) (ix2 (row t (i 0)) (unit t (i 1))) :=
  funext fun i => (congrArg (iblk m c 3 t : FVec Ideal S512x1024 .bf16) (ix2_eta i).symm).trans (blk3 m c t (i 0) (i 1))

/-- The block of window 4, as a function of its index. -/
theorem whole4 (c : Dev nD) (t : Fin cfg0.N) : (iblk m c 4 t : FVec Ideal S1x1024 .f32) = fun i => g m c (ix2 (i 0) (i 1)) :=
  funext fun i => (congrArg (iblk m c 4 t : FVec Ideal S1x1024 .f32) (ix2_eta i).symm).trans (blk4 m c t (i 0) (i 1))

/-- The block of window 5, as a function of its index. -/
theorem whole5 (c : Dev nD) (t : Fin cfg0.N) : (iblk m c 5 t : FVec Ideal S1x1024x1024 .bf16) = fun i => wu m c (ix2 (i 1) (unit t (i 2))) :=
  funext fun i => (congrArg (iblk m c 5 t : FVec Ideal S1x1024x1024 .bf16) (ix3_eta i).symm).trans (blk5 m c t (i 0) (i 1) (i 2))

/-- The block of window 6, as a function of its index. -/
theorem whole6 (c : Dev nD) (t : Fin cfg0.N) : (iblk m c 6 t : FVec Ideal S1x1024x1024 .bf16) = fun i => wd m c (ix2 (unit t (i 1)) (i 2)) :=
  funext fun i => (congrArg (iblk m c 6 t : FVec Ideal S1x1024x1024 .bf16) (ix3_eta i).symm).trans (blk6 m c t (i 0) (i 1) (i 2))

/-- The body's gradient before the square is the reference's. -/
theorem pay8 (c : Dev nD) (t : Fin cfg0.N) :
    k0_pay8 (F := Ideal) (iblk m c 1 t) (iblk m c 6 t) (iblk m c 3 t) = fun i => dU m c (ix2 (row t (i 0)) (unit t (i 1))) := by
  funext i
  obtain ⟨r, k, rfl⟩ : ∃ r k, i = ix2 r k := ⟨i 0, i 1, (ix2_eta i).symm⟩
  rw [show (iblk m c 1 t : FVec Ideal S512x1024 .bf16) = _ from whole1 m c t, show (iblk m c 6 t : FVec Ideal S1x1024x1024 .bf16) = _ from whole6 m c t,
    show (iblk m c 3 t : FVec Ideal S512x1024 .bf16) = _ from whole3 m c t]
  pointwise [k0_pay8, val_main_v27, val_main_v26, val_main_v25, val_main_v24, val_main_v22, val_main_v21, val_main_v18, val_main_v17, val_main_v16, val_main_cst_3, val_main_cst_5, val_main_cst_6, val_main_call0_cst, val_main_call0_v0]
  generalize val_main_v15 (F := Ideal) (h1 m c) (g m c) (wu m c) _ = u
  by_cases hu : (0 : EReal) < u
  · simp [hu]
  · simp [hu, max_eq_right (not_lt.mp hu)]

/-- One block of hidden units of the gradient of the normed activations. -/
noncomputable def part (c : Dev nD) (t : Fin cfg0.N) (y : S512x1024.Idx) : EReal :=
  ∑ x : Fin 1024, dU m c (ix2 (row t (y 0)) (unit t x)) * wu m c (ix2 (y 1) (unit t x))

/-- The body adds one block of hidden units to the scratch. -/
theorem pay9 (S : FVec Ideal S512x1024 .f32) (c : Dev nD) (t : Fin cfg0.N) (y : S512x1024.Idx) :
    k0_pay9 (F := Ideal) (iblk m c 1 t) (iblk m c 6 t) (iblk m c 3 t) S (iblk m c 5 t) y = S y + part m c t y := by
  obtain ⟨r, k, rfl⟩ : ∃ r k, y = ix2 r k := ⟨y 0, y 1, (ix2_eta y).symm⟩
  unfold k0_pay9
  rw [pay8 m c t, show (iblk m c 5 t : FVec Ideal S1x1024x1024 .bf16) = _ from whole5 m c t]
  pointwise [part]

/-- The scratch starts from zero. -/
theorem pay7 (y : S512x1024.Idx) : k0_pay7 (F := Ideal) y = 0 := by
  pointwise [k0_pay7]

/-- The norm gain's gradient starts from zero. -/
theorem pay1 (y : S1x1024.Idx) : k0_pay1 (F := Ideal) y = 0 := by
  pointwise [k0_pay1]

/-- From the summed gradient of the normed activations the body makes the gradient of the block's input. -/
theorem pay4 (c : Dev nD) (t : Fin cfg0.N) (y : S512x1024.Idx) :
    k0_pay4 (F := Ideal) (fun i => dM m c (ix2 (row t (i 0)) (i 1))) (iblk m c 2 t) (iblk m c 4 t) (iblk m c 0 t) y
      = val_main_v50 (F := Ideal) (h1 m c) (dh2 m c) (g m c) (wu m c) (wd m c) (ix2 (row t (y 0)) (y 1)) := by
  obtain ⟨r, k, rfl⟩ : ∃ r k, y = ix2 r k := ⟨y 0, y 1, (ix2_eta y).symm⟩
  rw [show (iblk m c 2 t : FVec Ideal S512x1024 .f32) = _ from whole2 m c t, show (iblk m c 4 t : FVec Ideal S1x1024 .f32) = _ from whole4 m c t,
    show (iblk m c 0 t : FVec Ideal S512x1024 .f32) = _ from whole0 m c t]
  generalize hv : dM m c = v
  have hv' : val_main_v30 (F := Ideal) (h1 m c) (dh2 m c) (g m c) (wu m c) (wd m c) = v := hv
  pointwise [k0_pay4, k0_pay3, k0_pay2, val_main_v0, val_main_v1, val_main_v2, val_main_v3, val_main_v4, val_main_v5, val_main_v6, val_main_v7, val_main_v8, val_main_v9, val_main_v10, val_main_v11, val_main_v12, val_main_v34, val_main_v35, val_main_v36, val_main_v37, val_main_v38, val_main_v39, val_main_v40, val_main_v41, val_main_v42, val_main_v43, val_main_v44, val_main_v45, val_main_v46, val_main_v47, val_main_v48, val_main_v49, val_main_v50, val_main_cst, val_main_cst_0, val_main_cst_1, val_main_cst_2, val_main_cst_7, val_main_cst_8, val_main_cst_9, val_main_cst_10]
  simp only [hv', Fin.sum_univ_one]
  obtain ⟨e, he, he'⟩ := Cert.Rms.ofBits_eps
  refine congrArg (fun z : EReal => _ + z) ((Cert.Rms.grad Cert.Rms.ofBits_1024 (by norm_num) he' he Cert.Rms.ofBits_neg_half (fun x => h1 m c (ix2 (row t r) x)) (fun x => v (ix2 (row t r) x) * g m c (ix2 0 x)) k).trans ?_)
  rfl

set_option maxHeartbeats 2000000 in
/-- The same sum with the reference's product before its rows are summed. -/
theorem pay6 (O : FVec Ideal S1x1024 .f32) (c : Dev nD) (t : Fin cfg0.N) (y : S1x1024.Idx) :
    k0_pay6 (F := Ideal) (fun i => dM m c (ix2 (row t (i 0)) (i 1))) (iblk m c 2 t) O y
      = O y + ∑ x : Fin 512, val_main_v31 (F := Ideal) (h1 m c) (dh2 m c) (g m c) (wu m c) (wd m c) (ix2 (row t x) (y 1)) := by
  obtain ⟨r, k, rfl⟩ : ∃ r k, y = ix2 r k := ⟨y 0, y 1, (ix2_eta y).symm⟩
  rw [show (iblk m c 2 t : FVec Ideal S512x1024 .f32) = _ from whole2 m c t]
  generalize hv : dM m c = v
  have hv' : val_main_v30 (F := Ideal) (h1 m c) (dh2 m c) (g m c) (wu m c) (wd m c) = v := hv
  pointwise [k0_pay6, k0_pay3, k0_pay2, val_main_v0, val_main_v1, val_main_v2, val_main_v3, val_main_v4, val_main_v5, val_main_v6, val_main_v7, val_main_v8, val_main_v9, val_main_v10, val_main_v11, val_main_v12, val_main_v31, val_main_cst, val_main_cst_0, val_main_cst_1, val_main_cst_2]
  simp only [hv']
  refine congrArg (fun z : EReal => _ + z) (Finset.sum_congr rfl fun x _ => mul_comm (G := EReal) _ _)

end Cert.MlpBwd
end
-- ==== Proof.MlpCases.lean ====
/- The gradient of the squared-ReLU MLP: what each grid point leaves, case by case, and the five results' contents after the call. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.MlpPay

@[expose] public section

set_option maxRecDepth 16384

noncomputable section

namespace Cert.MlpBwd

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

open Cert.Reference2Ideal.Read

theorem du_A (c : Dev nD) (t : Fin cfg0.N) (h0 : t.val % 4 = 0) (h1 : t.val % 32 = 0) (h2 : ¬t.val % 4 = 3) :
    (outsAt0 m c t.val t.isLt).2.2.1 = k0_pay8 (F := Ideal) (iblk m c 1 t) (iblk m c 6 t) (iblk m c 3 t) := by
  rw [outsAt0_A m c t h0 h1 h2]
  frame_out

theorem du_B (c : Dev nD) (t : Fin cfg0.N) (h0 : ¬t.val % 4 = 0) (h1 : ¬t.val % 32 = 0) (h2 : ¬t.val % 4 = 3) :
    (outsAt0 m c t.val t.isLt).2.2.1 = k0_pay8 (F := Ideal) (iblk m c 1 t) (iblk m c 6 t) (iblk m c 3 t) := by
  rw [outsAt0_B m c t h0 h1 h2]
  frame_out

theorem du_C (c : Dev nD) (t : Fin cfg0.N) (h0 : ¬t.val % 4 = 0) (h1 : ¬t.val % 32 = 0) (h2 : t.val % 4 = 3) :
    (outsAt0 m c t.val t.isLt).2.2.1 = k0_pay8 (F := Ideal) (iblk m c 1 t) (iblk m c 6 t) (iblk m c 3 t) := by
  rw [outsAt0_C m c t h0 h1 h2]
  frame_out

theorem du_D (c : Dev nD) (t : Fin cfg0.N) (h0 : t.val % 4 = 0) (h1 : ¬t.val % 32 = 0) (h2 : ¬t.val % 4 = 3) :
    (outsAt0 m c t.val t.isLt).2.2.1 = k0_pay8 (F := Ideal) (iblk m c 1 t) (iblk m c 6 t) (iblk m c 3 t) := by
  rw [outsAt0_D m c t h0 h1 h2]
  frame_out

theorem scr_A (c : Dev nD) (t : Fin cfg0.N) (h0 : t.val % 4 = 0) (h1 : t.val % 32 = 0) (h2 : ¬t.val % 4 = 3) :
    (outsAt0 m c t.val t.isLt).2.2.2.2 = k0_pay9 (F := Ideal) (iblk m c 1 t) (iblk m c 6 t) (iblk m c 3 t) (k0_pay7 (F := Ideal)) (iblk m c 5 t) := by
  rw [outsAt0_A m c t h0 h1 h2]
  frame_out

theorem scr_D (c : Dev nD) (t : Fin cfg0.N) (h0 : t.val % 4 = 0) (h1 : ¬t.val % 32 = 0) (h2 : ¬t.val % 4 = 3) :
    (outsAt0 m c t.val t.isLt).2.2.2.2 = k0_pay9 (F := Ideal) (iblk m c 1 t) (iblk m c 6 t) (iblk m c 3 t) (k0_pay7 (F := Ideal)) (iblk m c 5 t) := by
  rw [outsAt0_D m c t h0 h1 h2]
  frame_out

theorem scr_B (c : Dev nD) (t : Fin cfg0.N) (h0 : ¬t.val % 4 = 0) (h1 : ¬t.val % 32 = 0) (h2 : ¬t.val % 4 = 3) :
    (outsAt0 m c t.val t.isLt).2.2.2.2 = k0_pay9 (F := Ideal) (iblk m c 1 t) (iblk m c 6 t) (iblk m c 3 t) ((outsAt0 m c (t.val - 1) (Nat.lt_of_le_of_lt (Nat.sub_le _ _) t.isLt)).2.2.2.2) (iblk m c 5 t) := by
  rw [outsAt0_B m c t h0 h1 h2]
  frame_out
  exact congrArg (fun S => k0_pay9 (F := Ideal) (iblk m c 1 t) (iblk m c 6 t) (iblk m c 3 t) (S) (iblk m c 5 t)) (read_unread_whole _ _ _)

theorem scr_C (c : Dev nD) (t : Fin cfg0.N) (h0 : ¬t.val % 4 = 0) (h1 : ¬t.val % 32 = 0) (h2 : t.val % 4 = 3) :
    (outsAt0 m c t.val t.isLt).2.2.2.2 = k0_pay9 (F := Ideal) (iblk m c 1 t) (iblk m c 6 t) (iblk m c 3 t) ((outsAt0 m c (t.val - 1) (Nat.lt_of_le_of_lt (Nat.sub_le _ _) t.isLt)).2.2.2.2) (iblk m c 5 t) := by
  rw [outsAt0_C m c t h0 h1 h2]
  frame_out
  exact congrArg (fun S => k0_pay9 (F := Ideal) (iblk m c 1 t) (iblk m c 6 t) (iblk m c 3 t) (S) (iblk m c 5 t)) (read_unread_whole _ _ _)

theorem out_x (c : Dev nD) (t : Fin cfg0.N) (h0 : ¬t.val % 4 = 0) (h1 : ¬t.val % 32 = 0) (h2 : t.val % 4 = 3) :
    (outsAt0 m c t.val t.isLt).1 = k0_pay4 (F := Ideal) (k0_pay9 (F := Ideal) (iblk m c 1 t) (iblk m c 6 t) (iblk m c 3 t) ((outsAt0 m c (t.val - 1) (Nat.lt_of_le_of_lt (Nat.sub_le _ _) t.isLt)).2.2.2.2) (iblk m c 5 t)) (iblk m c 2 t) (iblk m c 4 t) (iblk m c 0 t) := by
  rw [outsAt0_C m c t h0 h1 h2]
  frame_out
  exact congrArg (fun S => k0_pay4 (F := Ideal) (k0_pay9 (F := Ideal) (iblk m c 1 t) (iblk m c 6 t) (iblk m c 3 t) (S) (iblk m c 5 t)) (iblk m c 2 t) (iblk m c 4 t) (iblk m c 0 t)) (read_unread_whole _ _ _)

theorem out_b (c : Dev nD) (t : Fin cfg0.N) (h0 : ¬t.val % 4 = 0) (h1 : ¬t.val % 32 = 0) (h2 : t.val % 4 = 3) :
    (outsAt0 m c t.val t.isLt).2.1 = k0_pay5 (F := Ideal) (k0_pay9 (F := Ideal) (iblk m c 1 t) (iblk m c 6 t) (iblk m c 3 t) ((outsAt0 m c (t.val - 1) (Nat.lt_of_le_of_lt (Nat.sub_le _ _) t.isLt)).2.2.2.2) (iblk m c 5 t)) (iblk m c 2 t) (iblk m c 4 t) (iblk m c 0 t) := by
  rw [outsAt0_C m c t h0 h1 h2]
  frame_out
  exact congrArg (fun S => k0_pay5 (F := Ideal) (k0_pay9 (F := Ideal) (iblk m c 1 t) (iblk m c 6 t) (iblk m c 3 t) (S) (iblk m c 5 t)) (iblk m c 2 t) (iblk m c 4 t) (iblk m c 0 t)) (read_unread_whole _ _ _)

theorem gain_A (c : Dev nD) (t : Fin cfg0.N) (h0 : t.val % 4 = 0) (h1 : t.val % 32 = 0) (h2 : ¬t.val % 4 = 3) :
    (outsAt0 m c t.val t.isLt).2.2.2.1 = k0_pay1 (F := Ideal) := by
  rw [outsAt0_A m c t h0 h1 h2]
  frame_out

theorem gain_B (c : Dev nD) (t : Fin cfg0.N) (h0 : ¬t.val % 4 = 0) (h1 : ¬t.val % 32 = 0) (h2 : ¬t.val % 4 = 3) :
    (outsAt0 m c t.val t.isLt).2.2.2.1 = (outsAt0 m c (t.val - 1) (Nat.lt_of_le_of_lt (Nat.sub_le _ _) t.isLt)).2.2.2.1 := by
  rw [outsAt0_B m c t h0 h1 h2]
  unfold out0_B_10
  rfl

theorem gain_D (c : Dev nD) (t : Fin cfg0.N) (h0 : t.val % 4 = 0) (h1 : ¬t.val % 32 = 0) (h2 : ¬t.val % 4 = 3) :
    (outsAt0 m c t.val t.isLt).2.2.2.1 = (outsAt0 m c (t.val - 1) (Nat.lt_of_le_of_lt (Nat.sub_le _ _) t.isLt)).2.2.2.1 := by
  rw [outsAt0_D m c t h0 h1 h2]
  unfold out0_D_10
  rfl

theorem gain_C (c : Dev nD) (t : Fin cfg0.N) (h0 : ¬t.val % 4 = 0) (h1 : ¬t.val % 32 = 0) (h2 : t.val % 4 = 3) :
    (outsAt0 m c t.val t.isLt).2.2.2.1 = k0_pay6 (F := Ideal) (k0_pay9 (F := Ideal) (iblk m c 1 t) (iblk m c 6 t) (iblk m c 3 t) ((outsAt0 m c (t.val - 1) (Nat.lt_of_le_of_lt (Nat.sub_le _ _) t.isLt)).2.2.2.2) (iblk m c 5 t)) (iblk m c 2 t) (outsAt0 m c (t.val - 1) (Nat.lt_of_le_of_lt (Nat.sub_le _ _) t.isLt)).2.2.2.1 := by
  rw [outsAt0_C m c t h0 h1 h2]
  frame_out
  exact congrArg (fun S => k0_pay6 (F := Ideal) (k0_pay9 (F := Ideal) (iblk m c 1 t) (iblk m c 6 t) (iblk m c 3 t) (S) (iblk m c 5 t)) (iblk m c 2 t) (outsAt0 m c (t.val - 1) (Nat.lt_of_le_of_lt (Nat.sub_le _ _) t.isLt)).2.2.2.1) (read_unread_whole _ _ _)

end Cert.MlpBwd
end
-- ==== Proof.MlpBwd.lean ====
/- The gradient of the squared-ReLU MLP: what the call leaves in its four results is the reference's gradients. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.MlpCases

@[expose] public section

set_option maxRecDepth 16384

noncomputable section

namespace Cert.MlpBwd

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

open Cert.Reference2Ideal.Read

/-- The gradient before the square after every grid point. -/
theorem du (c : Dev nD) (t : Fin cfg0.N) :
    (outsAt0 m c t.val t.isLt).2.2.1 = fun i => dU m c (ix2 (row t (i 0)) (unit t (i 1))) := by
  refine Eq.trans ?_ (pay8 m c t)
  by_cases h0 : t.val % 4 = 0
  · by_cases h1 : t.val % 32 = 0
    · exact du_A m c t h0 h1 (by omega)
    · exact du_D m c t h0 h1 (by omega)
  · by_cases h2 : t.val % 4 = 3
    · exact du_C m c t h0 (by omega) h2
    · exact du_B m c t h0 (by omega) h2

/-- The first block of hidden units starts the scratch. -/
theorem scr_first (c : Dev nD) (y : S512x1024.Idx) (t : Fin cfg0.N) (h0 : t.val % 4 = 0) :
    (outsAt0 m c t.val t.isLt).2.2.2.2 y = 0 + part m c t y := by
  refine Eq.trans ?_ ((pay9 m (k0_pay7 (F := Ideal)) c t y).trans (congrArg (fun z : EReal => z + part m c t y) (pay7 y)))
  by_cases h1 : t.val % 32 = 0
  · rw [scr_A m c t h0 h1 (by omega)]
  · rw [scr_D m c t h0 h1 (by omega)]

/-- A later block adds its part. -/
theorem scr_next (c : Dev nD) (y : S512x1024.Idx) (t : Fin cfg0.N) (h0 : ¬t.val % 4 = 0) :
    (outsAt0 m c t.val t.isLt).2.2.2.2 y = (outsAt0 m c (t.val - 1) (Nat.lt_of_le_of_lt (Nat.sub_le _ _) t.isLt)).2.2.2.2 y + part m c t y := by
  refine Eq.trans ?_ (pay9 m (outsAt0 m c (t.val - 1) (Nat.lt_of_le_of_lt (Nat.sub_le _ _) t.isLt)).2.2.2.2 c t y)
  by_cases h2 : t.val % 4 = 3
  · rw [scr_C m c t h0 (by omega) h2]
  · rw [scr_B m c t h0 (by omega) h2]

/-- After the last block of hidden units the scratch holds the gradient of the normed activations. -/
theorem scr (c : Dev nD) (t : Fin cfg0.N) (h2 : t.val % 4 = 3) :
    (outsAt0 m c t.val t.isLt).2.2.2.2 = fun i => dM m c (ix2 (row t (i 0)) (i 1)) := by
  funext y
  rw [Pipeline.eq_sum_fin_of_reset_step_of_flush (fun n h => (outsAt0 m c n h).2.2.2.2 y) 4 0 (fun t => part m c t y)
    (fun t h => scr_first m c y t h) (fun t h => scr_next m c y t h) t h2, zero_add]
  obtain ⟨r, k, rfl⟩ : ∃ r k, y = ix2 r k := ⟨y 0, y 1, (ix2_eta y).symm⟩
  pointwise [part, val_main_v30]
  refine Fin.sum_mul_add_congr fun s x hl => ?_
  refine congrArg₂ (fun a b : EReal => a * b) (congrArg _ (congrArg₂ ix2 (Fin.ext ?_) (Fin.ext ?_))) (congrArg _ (congrArg₂ ix2 rfl (Fin.ext ?_)))
  all_goals (simp; try omega)

/-- The scratch that the last block's point reads back, with its own part added, is that gradient. -/
theorem scr_last (c : Dev nD) (t : Fin cfg0.N) (h2 : t.val % 4 = 3) :
    k0_pay9 (F := Ideal) (iblk m c 1 t) (iblk m c 6 t) (iblk m c 3 t) ((outsAt0 m c (t.val - 1) (Nat.lt_of_le_of_lt (Nat.sub_le _ _) t.isLt)).2.2.2.2) (iblk m c 5 t) = fun i => dM m c (ix2 (row t (i 0)) (i 1)) :=
  (scr_C m c t (by omega) (by omega) h2).symm.trans (scr m c t h2)

/-- The gradient of the block's input, float32. -/
theorem final7 (c : Dev nD) : (dats m 0 c).arrAt 7 (cfgs 0).N = val_main_v50 (F := Ideal) (h1 m c) (dh2 m c) (g m c) (wu m c) (wd m c) := by
  refine (dats m 0 c).arrAt_eq_of_covers 7 _ (by decide +kernel) fun t hf y => ?_
  have h2 := (flush0_7 t).mp hf
  blk_simp
  rw [after0_7, out_x m c t (by omega) (by omega) h2, scr_last m c t h2, pay4]
  blk_point [idx t]

/-- The same gradient rounded to bfloat16. -/
theorem final8 (c : Dev nD) : (dats m 0 c).arrAt 8 (cfgs 0).N = val_main_v52 (F := Ideal) (h1 m c) (dh2 m c) (g m c) (wu m c) (wd m c) := by
  refine (dats m 0 c).arrAt_eq_of_covers 8 _ (by decide +kernel) fun t hf y => ?_
  have h2 := (flush0_8 t).mp hf
  have e : val_main_v52 (F := Ideal) (h1 m c) (dh2 m c) (g m c) (wu m c) (wd m c) = val_main_v50 (F := Ideal) (h1 m c) (dh2 m c) (g m c) (wu m c) (wd m c) := rfl
  have e' : k0_pay5 (F := Ideal) = k0_pay4 (F := Ideal) := rfl
  blk_simp
  rw [after0_8, out_b m c t (by omega) (by omega) h2, scr_last m c t h2, e, e', pay4]
  blk_point [idx t]

/-- The gradient before the square. -/
theorem final9 (c : Dev nD) : (dats m 0 c).arrAt 9 (cfgs 0).N = val_main_v53 (F := Ideal) (h1 m c) (dh2 m c) (g m c) (wu m c) (wd m c) := by
  refine (dats m 0 c).arrAt_eq_of_covers 9 _ (by decide +kernel) fun t hf y => ?_
  have e : val_main_v53 (F := Ideal) (h1 m c) (dh2 m c) (g m c) (wu m c) (wd m c) = dU m c := rfl
  blk_simp
  rw [after0_9, du, e]
  blk_point [idx t]

/-- What a grid point adds to the gradient of the norm's gain: a block of rows once its gradient is complete. -/
noncomputable def gpart (c : Dev nD) (t : Fin cfg0.N) (k : Fin 1024) : EReal :=
  if t.val % 4 = 3 then ∑ x : Fin 512, val_main_v31 (F := Ideal) (h1 m c) (dh2 m c) (g m c) (wu m c) (wd m c) (ix2 (row t x) k) else 0

theorem gpart_pos (c : Dev nD) (t : Fin cfg0.N) (k : Fin 1024) (h : t.val % 4 = 3) :
    gpart m c t k = ∑ x : Fin 512, val_main_v31 (F := Ideal) (h1 m c) (dh2 m c) (g m c) (wu m c) (wd m c) (ix2 (row t x) k) := if_pos h

theorem gpart_neg (c : Dev nD) (t : Fin cfg0.N) (k : Fin 1024) (h : ¬t.val % 4 = 3) : gpart m c t k = 0 := if_neg h

theorem gain_first (c : Dev nD) (y : S1x1024.Idx) (t : Fin cfg0.N) (h1 : t.val % 32 = 0) :
    (outsAt0 m c t.val t.isLt).2.2.2.1 y = 0 + gpart m c t (y 1) := by
  rw [gain_A m c t (by omega) h1 (by omega), pay1]
  exact ((congrArg (fun z : EReal => 0 + z) (gpart_neg m c t (y 1) (by omega))).trans (add_zero _)).symm

theorem gain_next (c : Dev nD) (y : S1x1024.Idx) (t : Fin cfg0.N) (h1 : ¬t.val % 32 = 0) :
    (outsAt0 m c t.val t.isLt).2.2.2.1 y = (outsAt0 m c (t.val - 1) (Nat.lt_of_le_of_lt (Nat.sub_le _ _) t.isLt)).2.2.2.1 y + gpart m c t (y 1) := by
  by_cases h2 : t.val % 4 = 3
  · rw [gain_C m c t (by omega) h1 h2, scr_last m c t h2, pay6]
    exact congrArg (fun z : EReal => _ + z) (gpart_pos m c t (y 1) h2).symm
  · refine Eq.trans ?_ ((congrArg (fun z : EReal => _ + z) (gpart_neg m c t (y 1) h2)).trans (add_zero _)).symm
    by_cases h0 : t.val % 4 = 0
    · rw [gain_D m c t h0 h1 h2]
    · rw [gain_B m c t h0 h1 h2]

/-- Eight blocks of 512 rows, each added at every fourth of 32 points, are the 4096 rows. -/
theorem sum_groups (F : Fin 4096 → EReal) :
    ∑ p : Fin 32, (if p.val % 4 = 3 then ∑ x : Fin 512, F ⟨p.val / 4 * 512 + x.val, by have := x.isLt; have := p.isLt; omega⟩ else 0) = ∑ x, F x := by
  rw [← Fin.sum_mul_add_congr (S := 8) (n := 4) (F := fun q j => if j.val = 3 then ∑ x : Fin 512, F ⟨q.val * 512 + x.val, by omega⟩ else 0)
    (f := fun p : Fin 32 => if p.val % 4 = 3 then ∑ x : Fin 512, F ⟨p.val / 4 * 512 + x.val, by have := x.isLt; have := p.isLt; omega⟩ else 0)]
  · rw [← Fin.sum_mul_add_congr (S := 8) (n := 512) (F := fun q x => F ⟨q.val * 512 + x.val, by omega⟩) (f := F) (fun q x hl => rfl)]
    refine Finset.sum_congr rfl fun q _ => ?_
    simp [Fin.sum_univ_four]
  · intro q j hl
    have e1 : (q.val * 4 + j.val) % 4 = j.val := by omega
    have e2 : (q.val * 4 + j.val) / 4 = q.val := by omega
    simp only [e1, e2]

/-- The gradient of the norm's gain. -/
theorem final10 (c : Dev nD) : (dats m 0 c).arrAt 10 (cfgs 0).N = val_main_v33 (F := Ideal) (h1 m c) (dh2 m c) (g m c) (wu m c) (wd m c) := by
  refine (dats m 0 c).arrAt_eq_of_covers 10 _ (by decide +kernel) fun t hf y => ?_
  have hl : t.val + 1 = cfg0.N := by have := (flush0_10 t).mp hf; have := lt_of_lt_of_eq t.isLt N_0; exact (show t.val + 1 = 32 by omega).trans N_0.symm
  have key : ∀ y : S1x1024.Idx, (outsAt0 m c t.val t.isLt).2.2.2.1 y = val_main_v33 (F := Ideal) (h1 m c) (dh2 m c) (g m c) (wu m c) (wd m c) y := by
    intro y
    rw [Pipeline.eq_sum_fin_of_reset_step_last (fun n h => (outsAt0 m c n h).2.2.2.1 y) 32 0 (fun t => gpart m c t (y 1))
      (fun t h => gain_first m c y t h) (fun t h => gain_next m c y t h) N_0.le t hl, zero_add]
    obtain ⟨r, k, rfl⟩ : ∃ r k, y = ix2 r k := ⟨y 0, y 1, (ix2_eta y).symm⟩
    generalize hv : val_main_v31 (F := Ideal) (h1 m c) (dh2 m c) (g m c) (wu m c) (wd m c) = v
    have hg : ∀ p, gpart m c p k = if p.val % 4 = 3 then ∑ x : Fin 512, v (ix2 (row p x) k) else 0 := by
      intro p; rw [← hv]; rfl
    pointwise [val_main_v33, val_main_v32, val_main_cst_7]
    rw [hv]
    simp only [hg]
    exact sum_groups fun x => v (ix2 x k)
  blk_simp
  rw [after0_10, key]
  blk_point [idx t]

end Cert.MlpBwd
end
-- ==== Proof.WDown.lean ====
/- The gradient of w_down: the two arrays the weight-gradient call leaves are the reference's product. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.Claim

@[expose] public section

set_option maxRecDepth 16384

noncomputable section

namespace Cert.WDown

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

open Cert.Reference3Ideal.Read

/-- Which block each window holds at grid point `t`. -/
theorem idx : ∀ t : Fin cfg0.N, win0_0.index t = ![0, t.val] ∧ win0_1.index t = ![0, 0] ∧ win0_2.index t = ![t.val, 0, 0] ∧ win0_3.index t = ![t.val, 0, 0] :=
  (by decide +kernel : ∀ t : Fin grid0.N, _)

/-- The gradient in float32. -/
theorem final2 (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_call0_cst, val_main_call0_v0, val_main_v0, val_main_v1, val_main_v2, val_main_v3, val_main_v4, val_main_v5, val_main_v6, val_main_v7]
  blk_point [iblk, V, idx t]

/-- The gradient rounded to bfloat16. -/
theorem final3 (c : Dev nD) : (dats m 0 c).arrAt 3 (cfgs 0).N
    = val_main_v7 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay3, k0_pay2, k0_pay1, val_main_call0_cst, val_main_call0_v0, val_main_v0, val_main_v1, val_main_v2, val_main_v3, val_main_v4, val_main_v5, val_main_v6, val_main_v7]
  blk_point [iblk, V, idx t]

end Cert.WDown
end
-- ==== Proof.WUp.lean ====
/- The gradient of w_up: the two arrays the weight-gradient call leaves are the reference's product. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.WUp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

open Cert.Reference4Ideal.Read

/-- Which block each window holds at grid point `t`. -/
theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

/-- The gradient in float32. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v0, val_main_v1, val_main_v2, val_main_v3, val_main_v4, val_main_v5, val_main_v6]
  refine (Finset.sum_congr rfl fun k _ => mul_comm (G := EReal) _ _).trans ?_
  blk_point [iblk, V, idx t]

/-- The gradient rounded to bfloat16. -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay3, k0_pay2, k0_pay1, val_main_v0, val_main_v1, val_main_v2, val_main_v3, val_main_v4, val_main_v5, val_main_v6]
  refine (Finset.sum_congr rfl fun k _ => mul_comm (G := EReal) _ _).trans ?_
  blk_point [iblk, V, idx t]

end Cert.WUp
end
-- ==== Proof.WIn.lean ====
/- The gradient of `w_in`: what the call `grad_w_in` leaves is the reference's product. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.WIn

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

open Cert.Reference5Ideal.Read

/-- Which block each window holds at grid point `t`. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![0, 0, 0] :=
  (by decide +kernel : ∀ t : Fin grid0.N, _)

/-- Slice 0 of the stacked convolution gradients, read without its unit axis. -/
theorem piece0 (mm : Memref sig .tc .vmem S3x1024x512 .bf16) (h : mm.IsWhole) (X : Vec Ideal S3x1024x512 .bf16) hn :
    View.read (Elt Ideal) ((mm.view.slice (Rect.unit (s := S3x1024x512) ![0, 0, 0] ![1, 1024, 512] inb_S3x1024x512_S1x1024x512_0_0_0)).reshape S1024x512 hn) (h.unread X)
      = fun j => X (ix3 0 (j 0) (j 1)) := by
  funext j
  refine (congrFun (h.read_unread X) _ : _ = X ((Rect.unit (s := S3x1024x512) ![0, 0, 0] ![1, 1024, 512] inb_S3x1024x512_S1x1024x512_0_0_0).emb (Shape.reshapeEquiv hn j))).trans ?_
  change shapeCast S1024x512 (View.ld X (Rect.unit (s := S3x1024x512) ![0, 0, 0] ![1, 1024, 512] inb_S3x1024x512_S1x1024x512_0_0_0)) hn j = _
  idx_vars j
  pointwise

/-- Slice 1 of the stacked convolution gradients, read without its unit axis. -/
theorem piece1 (mm : Memref sig .tc .vmem S3x1024x512 .bf16) (h : mm.IsWhole) (X : Vec Ideal S3x1024x512 .bf16) hn :
    View.read (Elt Ideal) ((mm.view.slice (Rect.unit (s := S3x1024x512) ![1, 0, 0] ![1, 1024, 512] inb_S3x1024x512_S1x1024x512_1_0_0)).reshape S1024x512 hn) (h.unread X)
      = fun j => X (ix3 1 (j 0) (j 1)) := by
  funext j
  refine (congrFun (h.read_unread X) _ : _ = X ((Rect.unit (s := S3x1024x512) ![1, 0, 0] ![1, 1024, 512] inb_S3x1024x512_S1x1024x512_1_0_0).emb (Shape.reshapeEquiv hn j))).trans ?_
  change shapeCast S1024x512 (View.ld X (Rect.unit (s := S3x1024x512) ![1, 0, 0] ![1, 1024, 512] inb_S3x1024x512_S1x1024x512_1_0_0)) hn j = _
  idx_vars j
  pointwise

/-- Slice 2 of the stacked convolution gradients, read without its unit axis. -/
theorem piece2 (mm : Memref sig .tc .vmem S3x1024x512 .bf16) (h : mm.IsWhole) (X : Vec Ideal S3x1024x512 .bf16) hn :
    View.read (Elt Ideal) ((mm.view.slice (Rect.unit (s := S3x1024x512) ![2, 0, 0] ![1, 1024, 512] inb_S3x1024x512_S1x1024x512_2_0_0)).reshape S1024x512 hn) (h.unread X)
      = fun j => X (ix3 2 (j 0) (j 1)) := by
  funext j
  refine (congrFun (h.read_unread X) _ : _ = X ((Rect.unit (s := S3x1024x512) ![2, 0, 0] ![1, 1024, 512] inb_S3x1024x512_S1x1024x512_2_0_0).emb (Shape.reshapeEquiv hn j))).trans ?_
  change shapeCast S1024x512 (View.ld X (Rect.unit (s := S3x1024x512) ![2, 0, 0] ![1, 1024, 512] inb_S3x1024x512_S1x1024x512_2_0_0)) hn j = _
  idx_vars j
  pointwise

/-- The eight stores of a point cover the block. -/
theorem cov (y : S4x1024x768.Idx) : y ∈ (Rect.unit (s := S4x1024x768) ![3, 0, 256] ![1, 1024, 512] inb_S4x1024x768_S1x1024x512_3_0_256).set ∨
    y ∈ (Rect.unit (s := S4x1024x768) ![3, 0, 0] ![1, 1024, 256] inb_S4x1024x768_S1x1024x256_3_0_0).set ∨
    y ∈ (Rect.unit (s := S4x1024x768) ![2, 0, 512] ![1, 1024, 256] inb_S4x1024x768_S1x1024x256_2_0_512).set ∨
    y ∈ (Rect.unit (s := S4x1024x768) ![2, 0, 0] ![1, 1024, 512] inb_S4x1024x768_S1x1024x512_2_0_0).set ∨
    y ∈ (Rect.unit (s := S4x1024x768) ![1, 0, 256] ![1, 1024, 512] inb_S4x1024x768_S1x1024x512_1_0_256).set ∨
    y ∈ (Rect.unit (s := S4x1024x768) ![1, 0, 0] ![1, 1024, 256] inb_S4x1024x768_S1x1024x256_1_0_0).set ∨
    y ∈ (Rect.unit (s := S4x1024x768) ![0, 0, 512] ![1, 1024, 256] inb_S4x1024x768_S1x1024x256_0_0_512).set ∨
    y ∈ (Rect.unit (s := S4x1024x768) ![0, 0, 0] ![1, 1024, 512] inb_S4x1024x768_S1x1024x512_0_0_0).set := by
  have h0 : (y 0 : ℕ) < 4 := (y 0).isLt
  have h1 : (y 1 : ℕ) < 1024 := (y 1).isLt
  have h2 : (y 2 : ℕ) < 768 := (y 2).isLt
  simp only [Rect.mem_set_unit, Fin.forall_fin_succ, Fin.forall_fin_zero_pi, IsEmpty.forall_iff]
  simp
  omega

/-- A covered index reads the same without the oldest store. -/
theorem canon_dropLast {S : Shape} {e : EltTy} (y : S.Idx) : ∀ L : List (View.Piece (Elt Ideal) S e),
    (∃ p ∈ L.dropLast, y ∈ p.1.set) → View.canon L y = View.canon L.dropLast y
  | [], h => rfl
  | [p], h => by simp at h
  | p :: q :: L, h => by
    rw [List.dropLast_cons₂]
    by_cases hy : y ∈ p.1.set
    · obtain ⟨x, -, rfl⟩ := Finset.mem_map.mp ((congrArg (y ∈ ·) p.1.map_emb_univ).mpr hy)
      exact (View.canon_cons_emb p.1 p.2 _ x).trans (View.canon_cons_emb p.1 p.2 _ x).symm
    · rw [View.canon_cons_of_not_mem p _ hy, View.canon_cons_of_not_mem p _ hy]
      refine canon_dropLast y (q :: L) ?_
      obtain ⟨r, hr, hry⟩ := h
      rw [List.dropLast_cons₂, List.mem_cons] at hr
      rcases hr with rfl | hr
      · exact absurd hry hy
      · exact ⟨r, hr, hry⟩

/-- What grid point `p` adds: its 1024 tokens' part of the product. -/
def part (A : FVec Ideal S4096x1024 .f32) (D : FVec Ideal S4096x3072 .f32) (p : Fin cfg0.N) (y : S4x1024x768.Idx) : EReal :=
  ∑ k : Fin 1024, A (ix2 ⟨p.val * 1024 + k.val, by have := k.isLt; have := lt_of_lt_of_eq p.isLt N_0; omega⟩ (y 1))
    * D (ix2 ⟨p.val * 1024 + k.val, by have := k.isLt; have := lt_of_lt_of_eq p.isLt N_0; omega⟩
        ⟨(y 0).val * 768 + (y 2).val, by have h0 : (y 0 : ℕ) < 4 := (y 0).isLt; have h2 : (y 2 : ℕ) < 768 := (y 2).isLt; omega⟩)

/-- An index of the block is fixed by its three coordinates. -/
theorem ext3 (y : S4x1024x768.Idx) (a : Fin 4) (b : Fin 1024) (d : Fin 768) (h0 : (a : ℕ) = y 0) (h1 : (b : ℕ) = y 1)
    (h2 : (d : ℕ) = y 2) : ix3 a b d = y := by
  funext i
  match i with
  | 0 => exact Fin.ext h0
  | 1 => exact Fin.ext h1
  | 2 => exact Fin.ext h2

/-- The same token as a row of the whole array. -/
abbrev row (t : Fin cfg0.N) (k : Fin 1024) : Fin 4096 :=
  ⟨t.val * 1024 + k.val, by have := k.isLt; have := lt_of_lt_of_eq t.isLt N_0; omega⟩

/-- The tokens' normed activations at grid point `t`. -/
theorem lane0 (c : Dev nD) (t : Fin cfg0.N) (k : Fin 1024) (q : Fin 1024) :
    iblk m c 0 t (ix2 k q) = m ((c : Thread nD τ).loc main_arg0) (ix2 (row t k) q) := by
  blk_point [iblk, V, idx t]

/-- Columns 1536 to 2047 of the joined gradient at grid point `t`. -/
theorem lane2 (c : Dev nD) (t : Fin cfg0.N) (k : Fin 1024) (q : Fin 512) :
    iblk m c 2 t (ix2 k q) = m ((c : Thread nD τ).loc main_arg1) (ix2 (row t k) ⟨1536 + q.val, by omega⟩) := by
  blk_point [iblk, V, idx t]

/-- Columns 2048 to 2559 of the joined gradient at grid point `t`. -/
theorem lane3 (c : Dev nD) (t : Fin cfg0.N) (k : Fin 1024) (q : Fin 512) :
    iblk m c 3 t (ix2 k q) = m ((c : Thread nD τ).loc main_arg1) (ix2 (row t k) ⟨2048 + q.val, by omega⟩) := by
  blk_point [iblk, V, idx t]

/-- Columns 2560 to 3071 of the joined gradient at grid point `t`. -/
theorem lane4 (c : Dev nD) (t : Fin cfg0.N) (k : Fin 1024) (q : Fin 512) :
    iblk m c 4 t (ix2 k q) = m ((c : Thread nD τ).loc main_arg1) (ix2 (row t k) ⟨2560 + q.val, by omega⟩) := by
  blk_point [iblk, V, idx t]

/-- The slice of the joined gradient that becomes number 0 of the stack. -/
theorem slab0 (c : Dev nD) (k : Fin 4096) (q : Fin 512) :
    (V m c main_v4 : FVec Ideal S1x4096x512 .bf16) (ix3 0 k q) = m ((c : Thread nD τ).loc main_arg1) (ix2 k ⟨0 + q.val, by omega⟩) := by
  entry_read
  pointwise

/-- The slice of the joined gradient that becomes number 1 of the stack. -/
theorem slab1 (c : Dev nD) (k : Fin 4096) (q : Fin 512) :
    (V m c main_v5 : FVec Ideal S1x4096x512 .bf16) (ix3 0 k q) = m ((c : Thread nD τ).loc main_arg1) (ix2 k ⟨512 + q.val, by omega⟩) := by
  entry_read
  pointwise

/-- The slice of the joined gradient that becomes number 2 of the stack. -/
theorem slab2 (c : Dev nD) (k : Fin 4096) (q : Fin 512) :
    (V m c main_v6 : FVec Ideal S1x4096x512 .bf16) (ix3 0 k q) = m ((c : Thread nD τ).loc main_arg1) (ix2 k ⟨1024 + q.val, by omega⟩) := by
  entry_read
  pointwise

/-- The stack of the three gradients is their concatenation. -/
theorem joined (c : Dev nD) : (V m c main_v7 : FVec Ideal S3x4096x512 .bf16)
    = concatenate S3x4096x512 0 [⟨S1x4096x512, (V m c main_v4 : (⟨S1x4096x512, .bf16⟩ : BufTy).Contents (Elt Ideal))⟩, ⟨S1x4096x512, (V m c main_v5 : (⟨S1x4096x512, .bf16⟩ : BufTy).Contents (Elt Ideal))⟩, ⟨S1x4096x512, (V m c main_v6 : (⟨S1x4096x512, .bf16⟩ : BufTy).Contents (Elt Ideal))⟩] concatenates_S1x4096x512_S1x4096x512_S1x4096x512_S3x4096x512_d0 := by
  simp only [V, StableHlo.after_cons, StableHlo.after_nil]
  after_results_simp
  rfl

/-- Slice 0 of the stacked gradients is columns 0 to 511 of the joined gradient. -/
theorem joined0 (c : Dev nD) (k : Fin 4096) (q : Fin 512) :
    (V m c main_v7 : FVec Ideal S3x4096x512 .bf16) (ix3 0 k q) = m ((c : Thread nD τ).loc main_arg1) (ix2 k ⟨0 + q.val, by omega⟩) := by
  rw [joined]
  refine Eq.trans ?_ (slab0 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- The same slice as grid point `t` reads it. -/
theorem stack0 (c : Dev nD) (t : Fin cfg0.N) (k : Fin 1024) (q : Fin 512) :
    iblk m c 1 t (ix3 0 k q) = m ((c : Thread nD τ).loc main_arg1) (ix2 (row t k) ⟨0 + q.val, by omega⟩) := by
  have h : iblk m c 1 t (ix3 0 k q) = (V m c main_v7 : FVec Ideal S3x4096x512 .bf16) (ix3 0 (row t k) q) := by
    generalize hv : (V m c main_v7 : FVec Ideal S3x4096x512 .bf16) = v
    have : V m c main_v7 = v := hv
    blk_point [iblk, this, idx t]
  rw [h, joined0]

/-- Slice 1 of the stacked gradients is columns 512 to 1023 of the joined gradient. -/
theorem joined1 (c : Dev nD) (k : Fin 4096) (q : Fin 512) :
    (V m c main_v7 : FVec Ideal S3x4096x512 .bf16) (ix3 1 k q) = m ((c : Thread nD τ).loc main_arg1) (ix2 k ⟨512 + q.val, by omega⟩) := by
  rw [joined]
  refine Eq.trans ?_ (slab1 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- The same slice as grid point `t` reads it. -/
theorem stack1 (c : Dev nD) (t : Fin cfg0.N) (k : Fin 1024) (q : Fin 512) :
    iblk m c 1 t (ix3 1 k q) = m ((c : Thread nD τ).loc main_arg1) (ix2 (row t k) ⟨512 + q.val, by omega⟩) := by
  have h : iblk m c 1 t (ix3 1 k q) = (V m c main_v7 : FVec Ideal S3x4096x512 .bf16) (ix3 1 (row t k) q) := by
    generalize hv : (V m c main_v7 : FVec Ideal S3x4096x512 .bf16) = v
    have : V m c main_v7 = v := hv
    blk_point [iblk, this, idx t]
  rw [h, joined1]

/-- Slice 2 of the stacked gradients is columns 1024 to 1535 of the joined gradient. -/
theorem joined2 (c : Dev nD) (k : Fin 4096) (q : Fin 512) :
    (V m c main_v7 : FVec Ideal S3x4096x512 .bf16) (ix3 2 k q) = m ((c : Thread nD τ).loc main_arg1) (ix2 k ⟨1024 + q.val, by omega⟩) := by
  rw [joined]
  refine Eq.trans ?_ (slab2 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- The same slice as grid point `t` reads it. -/
theorem stack2 (c : Dev nD) (t : Fin cfg0.N) (k : Fin 1024) (q : Fin 512) :
    iblk m c 1 t (ix3 2 k q) = m ((c : Thread nD τ).loc main_arg1) (ix2 (row t k) ⟨1024 + q.val, by omega⟩) := by
  have h : iblk m c 1 t (ix3 2 k q) = (V m c main_v7 : FVec Ideal S3x4096x512 .bf16) (ix3 2 (row t k) q) := by
    generalize hv : (V m c main_v7 : FVec Ideal S3x4096x512 .bf16) = v
    have : V m c main_v7 = v := hv
    blk_point [iblk, this, idx t]
  rw [h, joined2]

set_option maxHeartbeats 2000000 in
/-- A later grid point adds its part to what the point before left. -/
theorem stepB (c : Dev nD) (t : Fin cfg0.N) (h : ¬ t.val % 4 = 0) (y : S4x1024x768.Idx) :
    outsAt0 m c t.val t.isLt y = outsAt0 m c (t.val - 1) (Nat.lt_of_le_of_lt (Nat.sub_le _ _) t.isLt) y
      + part (m ((c : Thread nD τ).loc main_arg0)) (m ((c : Thread nD τ).loc main_arg1)) t y := by
  rw [outsAt0_B m c t h]
  frame_out
  canon_tiles x hh using (by simpa only [List.mem_cons, List.not_mem_nil, exists_eq_or_imp, exists_eq_left, or_false, false_and, exists_false] using cov y)
  case piece0 =>
    open_payloads
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (lane4 m c t k _)).trans
      (congrArg₂ (fun a b : EReal => a * b) (congrArg _ (congrArg₂ ix2 rfl (Fin.ext ?_))) (congrArg _ (congrArg₂ ix2 rfl (Fin.ext ?_))))
    all_goals (simp; try omega)
  case piece1 =>
    open_payloads
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (lane3 m c t k _)).trans
      (congrArg₂ (fun a b : EReal => a * b) (congrArg _ (congrArg₂ ix2 rfl (Fin.ext ?_))) (congrArg _ (congrArg₂ ix2 rfl (Fin.ext ?_))))
    all_goals (simp; try omega)
  case piece2 =>
    open_payloads
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (lane3 m c t k _)).trans
      (congrArg₂ (fun a b : EReal => a * b) (congrArg _ (congrArg₂ ix2 rfl (Fin.ext ?_))) (congrArg _ (congrArg₂ ix2 rfl (Fin.ext ?_))))
    all_goals (simp; try omega)
  case piece3 =>
    open_payloads
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (lane2 m c t k _)).trans
      (congrArg₂ (fun a b : EReal => a * b) (congrArg _ (congrArg₂ ix2 rfl (Fin.ext ?_))) (congrArg _ (congrArg₂ ix2 rfl (Fin.ext ?_))))
    all_goals (simp; try omega)
  case piece4 =>
    open_payloads
    rw [piece2]
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (stack2 m c t k _)).trans
      (congrArg₂ (fun a b : EReal => a * b) (congrArg _ (congrArg₂ ix2 rfl (Fin.ext ?_))) (congrArg _ (congrArg₂ ix2 rfl (Fin.ext ?_))))
    all_goals (simp; try omega)
  case piece5 =>
    open_payloads
    rw [piece1]
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (stack1 m c t k _)).trans
      (congrArg₂ (fun a b : EReal => a * b) (congrArg _ (congrArg₂ ix2 rfl (Fin.ext ?_))) (congrArg _ (congrArg₂ ix2 rfl (Fin.ext ?_))))
    all_goals (simp; try omega)
  case piece6 =>
    open_payloads
    rw [piece1]
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (stack1 m c t k _)).trans
      (congrArg₂ (fun a b : EReal => a * b) (congrArg _ (congrArg₂ ix2 rfl (Fin.ext ?_))) (congrArg _ (congrArg₂ ix2 rfl (Fin.ext ?_))))
    all_goals (simp; try omega)
  case piece7 =>
    open_payloads
    rw [piece0]
    pointwise [k0_pay3, part]
    refine congrArg₂ (fun a b : EReal => a + b) (congrArg _ (ext3 y _ _ _ ?_ ?_ ?_)) ?_
    iterate 3 (simp; try omega)
    refine Finset.sum_congr rfl fun k _ => ?_
    refine (congrArg₂ (fun a b : EReal => a * b) (lane0 m c t k _) (stack0 m c t k _)).trans
      (congrArg₂ (fun a b : EReal => a * b) (congrArg _ (congrArg₂ ix2 rfl (Fin.ext ?_))) (congrArg _ (congrArg₂ ix2 rfl (Fin.ext ?_))))
    all_goals (simp; try omega)

set_option maxHeartbeats 2000000 in
/-- The first grid point starts from zero. -/
theorem stepA (c : Dev nD) (t : Fin cfg0.N) (h : t.val % 4 = 0) (y : S4x1024x768.Idx) :
    outsAt0 m c t.val t.isLt y = 0
      + part (m ((c : Thread nD τ).loc main_arg0)) (m ((c : Thread nD τ).loc main_arg1)) t y := by
  rw [outsAt0_A m c t h]
  frame_out
  simp (config := {decide := true}) only [↓View.readCov_skip, View.readCov_fill]
  rw [canon_dropLast y _ (by simpa only [List.dropLast_cons₂, List.dropLast_singleton, List.mem_cons, List.not_mem_nil, exists_eq_or_imp, exists_eq_left, or_false, false_and, exists_false] using cov y)]
  simp only [List.dropLast_cons₂, List.dropLast_singleton]
  canon_tiles x hh using (by simpa only [List.mem_cons, List.not_mem_nil, exists_eq_or_imp, exists_eq_left, or_false, false_and, exists_false] using cov y)
  case piece0 =>
    open_payloads
    pointwise [k0_pay2, k0_pay3, part]
    refine Finset.sum_congr rfl fun k _ => ?_
    refine (congrArg₂ (fun a b : EReal => a * b) (lane0 m c t k _) (lane4 m c t k _)).trans
      (congrArg₂ (fun a b : EReal => a * b) (congrArg _ (congrArg₂ ix2 rfl (Fin.ext ?_))) (congrArg _ (congrArg₂ ix2 rfl (Fin.ext ?_))))
    all_goals (simp; try omega)
  case piece1 =>
    open_payloads
    pointwise [k0_pay2, k0_pay3, part]
    refine Finset.sum_congr rfl fun k _ => ?_
    refine (congrArg₂ (fun a b : EReal => a * b) (lane0 m c t k _) (lane3 m c t k _)).trans
      (congrArg₂ (fun a b : EReal => a * b) (congrArg _ (congrArg₂ ix2 rfl (Fin.ext ?_))) (congrArg _ (congrArg₂ ix2 rfl (Fin.ext ?_))))
    all_goals (simp; try omega)
  case piece2 =>
    open_payloads
    pointwise [k0_pay2, k0_pay3, part]
    refine Finset.sum_congr rfl fun k _ => ?_
    refine (congrArg₂ (fun a b : EReal => a * b) (lane0 m c t k _) (lane3 m c t k _)).trans
      (congrArg₂ (fun a b : EReal => a * b) (congrArg _ (congrArg₂ ix2 rfl (Fin.ext ?_))) (congrArg _ (congrArg₂ ix2 rfl (Fin.ext ?_))))
    all_goals (simp; try omega)
  case piece3 =>
    open_payloads
    pointwise [k0_pay2, k0_pay3, part]
    refine Finset.sum_congr rfl fun k _ => ?_
    refine (congrArg₂ (fun a b : EReal => a * b) (lane0 m c t k _) (lane2 m c t k _)).trans
      (congrArg₂ (fun a b : EReal => a * b) (congrArg _ (congrArg₂ ix2 rfl (Fin.ext ?_))) (congrArg _ (congrArg₂ ix2 rfl (Fin.ext ?_))))
    all_goals (simp; try omega)
  case piece4 =>
    open_payloads
    rw [piece2]
    pointwise [k0_pay2, k0_pay3, part]
    refine Finset.sum_congr rfl fun k _ => ?_
    refine (congrArg₂ (fun a b : EReal => a * b) (lane0 m c t k _) (stack2 m c t k _)).trans
      (congrArg₂ (fun a b : EReal => a * b) (congrArg _ (congrArg₂ ix2 rfl (Fin.ext ?_))) (congrArg _ (congrArg₂ ix2 rfl (Fin.ext ?_))))
    all_goals (simp; try omega)
  case piece5 =>
    open_payloads
    rw [piece1]
    pointwise [k0_pay2, k0_pay3, part]
    refine Finset.sum_congr rfl fun k _ => ?_
    refine (congrArg₂ (fun a b : EReal => a * b) (lane0 m c t k _) (stack1 m c t k _)).trans
      (congrArg₂ (fun a b : EReal => a * b) (congrArg _ (congrArg₂ ix2 rfl (Fin.ext ?_))) (congrArg _ (congrArg₂ ix2 rfl (Fin.ext ?_))))
    all_goals (simp; try omega)
  case piece6 =>
    open_payloads
    rw [piece1]
    pointwise [k0_pay2, k0_pay3, part]
    refine Finset.sum_congr rfl fun k _ => ?_
    refine (congrArg₂ (fun a b : EReal => a * b) (lane0 m c t k _) (stack1 m c t k _)).trans
      (congrArg₂ (fun a b : EReal => a * b) (congrArg _ (congrArg₂ ix2 rfl (Fin.ext ?_))) (congrArg _ (congrArg₂ ix2 rfl (Fin.ext ?_))))
    all_goals (simp; try omega)
  case piece7 =>
    open_payloads
    rw [piece0]
    pointwise [k0_pay2, k0_pay3, part]
    refine Finset.sum_congr rfl fun k _ => ?_
    refine (congrArg₂ (fun a b : EReal => a * b) (lane0 m c t k _) (stack0 m c t k _)).trans
      (congrArg₂ (fun a b : EReal => a * b) (congrArg _ (congrArg₂ ix2 rfl (Fin.ext ?_))) (congrArg _ (congrArg₂ ix2 rfl (Fin.ext ?_))))
    all_goals (simp; try omega)

/-- The gradient of `w_in`. -/
theorem final5 (c : Dev nD) : (dats m 0 c).arrAt 5 (cfgs 0).N
    = val_main_v5 (F := Ideal) (m ((c : Thread nD τ).loc main_arg0)) (m ((c : Thread nD τ).loc main_arg1)) := by
  refine (dats m 0 c).arrAt_eq_of_covers 5 _ (by decide +kernel) fun t hf y => ?_
  blk_simp
  rw [after0_5, Pipeline.eq_sum_fin_of_reset_step_apply_of_flush (fun n h => outsAt0 m c n h) 4 (fun _ => 0) _
    (fun t h j => stepA m c t h j) (fun t h j => stepB m c t h j) t ((flush0_5 t).mp hf) _, zero_add]
  pointwise [part, val_main_v0, val_main_v1, val_main_v2, val_main_v3, val_main_v4, val_main_v5]
  refine Fin.sum_mul_add_congr fun s k hl => ?_
  refine (mul_comm (G := EReal) _ _).trans ?_
  blk_point [iblk, V, idx t]

end Cert.WIn
end
-- ==== Proof.InProjBlocks.lean ====
/- The gradient of the input projection: what each block of the call's arguments holds. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.InProjBwd

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

open Cert.Reference6Ideal.Read

/-- Which block each window holds at grid point `t`. -/
theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0, 0] ∧ win0_8.index t = ![t.val, 0] ∧ win0_9.index t = ![0, 0] :=
  (by decide +kernel : ∀ t : Fin grid0.N, _)

/-- Row `r` of grid point `t`'s tokens as a row of the whole array. -/
abbrev row (t : Fin cfg0.N) (r : Fin 512) : Fin 4096 :=
  ⟨t.val * 512 + r.val, by have := r.isLt; have := lt_of_lt_of_eq t.isLt N_0; omega⟩

/-- The five arguments on device `c`: the joined gradient, the gradient that passes the block by, the block's input, the norm's gain and the weights. -/
abbrev dp (c : Dev nD) : FVec Ideal S4096x3072 .f32 := m ((c : Thread nD τ).loc main_arg0)
abbrev dh (c : Dev nD) : FVec Ideal S4096x1024 .f32 := m ((c : Thread nD τ).loc main_arg1)
abbrev xx (c : Dev nD) : FVec Ideal S4096x1024 .f32 := m ((c : Thread nD τ).loc main_arg2)
abbrev g (c : Dev nD) : FVec Ideal S1x1024 .f32 := m ((c : Thread nD τ).loc main_arg3)
abbrev wi (c : Dev nD) : FVec Ideal S1024x3072 .f32 := m ((c : Thread nD τ).loc main_arg4)

/-- The slice of the joined gradient that becomes number 0 of the stack. -/
theorem slab0 (c : Dev nD) (k : Fin 4096) (q : Fin 512) :
    (V m c main_v4 : FVec Ideal S1x4096x512 .bf16) (ix3 0 k q) = dp m c (ix2 k ⟨0 + q.val, by omega⟩) := by
  entry_read
  pointwise

/-- The slice of the joined gradient that becomes number 1 of the stack. -/
theorem slab1 (c : Dev nD) (k : Fin 4096) (q : Fin 512) :
    (V m c main_v5 : FVec Ideal S1x4096x512 .bf16) (ix3 0 k q) = dp m c (ix2 k ⟨512 + q.val, by omega⟩) := by
  entry_read
  pointwise

/-- The slice of the joined gradient that becomes number 2 of the stack. -/
theorem slab2 (c : Dev nD) (k : Fin 4096) (q : Fin 512) :
    (V m c main_v6 : FVec Ideal S1x4096x512 .bf16) (ix3 0 k q) = dp m c (ix2 k ⟨1024 + q.val, by omega⟩) := by
  entry_read
  pointwise

/-- The stack of the three gradients is their concatenation. -/
theorem joined (c : Dev nD) : (V m c main_v7 : FVec Ideal S3x4096x512 .bf16)
    = concatenate S3x4096x512 0 [⟨S1x4096x512, (V m c main_v4 : (⟨S1x4096x512, .bf16⟩ : BufTy).Contents (Elt Ideal))⟩, ⟨S1x4096x512, (V m c main_v5 : (⟨S1x4096x512, .bf16⟩ : BufTy).Contents (Elt Ideal))⟩, ⟨S1x4096x512, (V m c main_v6 : (⟨S1x4096x512, .bf16⟩ : BufTy).Contents (Elt Ideal))⟩] concatenates_S1x4096x512_S1x4096x512_S1x4096x512_S3x4096x512_d0 := by
  simp only [V, StableHlo.after_cons, StableHlo.after_nil]
  after_results_simp
  rfl

/-- Slice 0 of the stacked gradients is columns 0 to 511 of the joined gradient. -/
theorem joined0 (c : Dev nD) (k : Fin 4096) (q : Fin 512) :
    (V m c main_v7 : FVec Ideal S3x4096x512 .bf16) (ix3 0 k q) = dp m c (ix2 k ⟨0 + q.val, by omega⟩) := by
  rw [joined]
  refine Eq.trans ?_ (slab0 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- Slice 1 of the stacked gradients is columns 512 to 1023 of the joined gradient. -/
theorem joined1 (c : Dev nD) (k : Fin 4096) (q : Fin 512) :
    (V m c main_v7 : FVec Ideal S3x4096x512 .bf16) (ix3 1 k q) = dp m c (ix2 k ⟨512 + q.val, by omega⟩) := by
  rw [joined]
  refine Eq.trans ?_ (slab1 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- Slice 2 of the stacked gradients is columns 1024 to 1535 of the joined gradient. -/
theorem joined2 (c : Dev nD) (k : Fin 4096) (q : Fin 512) :
    (V m c main_v7 : FVec Ideal S3x4096x512 .bf16) (ix3 2 k q) = dp m c (ix2 k ⟨1024 + q.val, by omega⟩) := by
  rw [joined]
  refine Eq.trans ?_ (slab2 m c k q)
  generalize (V m c main_v4 : FVec Ideal S1x4096x512 .bf16) = v4
  generalize (V m c main_v5 : FVec Ideal S1x4096x512 .bf16) = v5
  generalize (V m c main_v6 : FVec Ideal S1x4096x512 .bf16) = v6
  pointwise

/-- The same slice as grid point `t` reads it. -/
theorem stack0 (c : Dev nD) (t : Fin cfg0.N) (r : Fin 512) (q : Fin 512) :
    iblk m c 0 t (ix3 0 r q) = dp m c (ix2 (row t r) ⟨0 + q.val, by omega⟩) := by
  have h : iblk m c 0 t (ix3 0 r q) = (V m c main_v7 : FVec Ideal S3x4096x512 .bf16) (ix3 0 (row t r) q) := by
    generalize hv : (V m c main_v7 : FVec Ideal S3x4096x512 .bf16) = v
    have : V m c main_v7 = v := hv
    blk_point [iblk, this, idx t]
  rw [h, joined0]

/-- The same slice as grid point `t` reads it. -/
theorem stack1 (c : Dev nD) (t : Fin cfg0.N) (r : Fin 512) (q : Fin 512) :
    iblk m c 0 t (ix3 1 r q) = dp m c (ix2 (row t r) ⟨512 + q.val, by omega⟩) := by
  have h : iblk m c 0 t (ix3 1 r q) = (V m c main_v7 : FVec Ideal S3x4096x512 .bf16) (ix3 1 (row t r) q) := by
    generalize hv : (V m c main_v7 : FVec Ideal S3x4096x512 .bf16) = v
    have : V m c main_v7 = v := hv
    blk_point [iblk, this, idx t]
  rw [h, joined1]

/-- The same slice as grid point `t` reads it. -/
theorem stack2 (c : Dev nD) (t : Fin cfg0.N) (r : Fin 512) (q : Fin 512) :
    iblk m c 0 t (ix3 2 r q) = dp m c (ix2 (row t r) ⟨1024 + q.val, by omega⟩) := by
  have h : iblk m c 0 t (ix3 2 r q) = (V m c main_v7 : FVec Ideal S3x4096x512 .bf16) (ix3 2 (row t r) q) := by
    generalize hv : (V m c main_v7 : FVec Ideal S3x4096x512 .bf16) = v
    have : V m c main_v7 = v := hv
    blk_point [iblk, this, idx t]
  rw [h, joined2]

/-- Columns 1536 to 2047 of the joined gradient at grid point `t`. -/
theorem lane1 (c : Dev nD) (t : Fin cfg0.N) (r : Fin 512) (q : Fin 512) :
    iblk m c 1 t (ix2 r q) = dp m c (ix2 (row t r) ⟨1536 + q.val, by omega⟩) := by
  blk_point [iblk, V, idx t]

/-- Columns 2048 to 2559 of the joined gradient at grid point `t`. -/
theorem lane2 (c : Dev nD) (t : Fin cfg0.N) (r : Fin 512) (q : Fin 512) :
    iblk m c 2 t (ix2 r q) = dp m c (ix2 (row t r) ⟨2048 + q.val, by omega⟩) := by
  blk_point [iblk, V, idx t]

/-- Columns 2560 to 3071 of the joined gradient at grid point `t`. -/
theorem lane3 (c : Dev nD) (t : Fin cfg0.N) (r : Fin 512) (q : Fin 512) :
    iblk m c 3 t (ix2 r q) = dp m c (ix2 (row t r) ⟨2560 + q.val, by omega⟩) := by
  blk_point [iblk, V, idx t]

theorem blk4 (c : Dev nD) (t : Fin cfg0.N) (r : Fin 512) (k : Fin 1024) :
    iblk m c 4 t (ix2 r k) = dh m c (ix2 (row t r) k) := by
  blk_point [iblk, V, idx t]

theorem blk5 (c : Dev nD) (t : Fin cfg0.N) (r : Fin 512) (k : Fin 1024) :
    iblk m c 5 t (ix2 r k) = xx m c (ix2 (row t r) k) := by
  blk_point [iblk, V, idx t]

theorem blk6 (c : Dev nD) (t : Fin cfg0.N) (r : Fin 1) (k : Fin 1024) :
    iblk m c 6 t (ix2 r k) = g m c (ix2 r k) := by
  blk_point [iblk, V, idx t]

/-- The weights cut into four blocks of columns. -/
theorem blocks (c : Dev nD) (b : Fin 4) (k : Fin 1024) (q : Fin 768) :
    (V m c main_v13 : FVec Ideal S4x1024x768 .bf16) (ix3 b k q) = wi m c (ix2 k ⟨b.val * 768 + q.val, by omega⟩) := by
  entry_read
  pointwise

theorem blk7 (c : Dev nD) (t : Fin cfg0.N) (b : Fin 4) (k : Fin 1024) (q : Fin 768) :
    iblk m c 7 t (ix3 b k q) = wi m c (ix2 k ⟨b.val * 768 + q.val, by omega⟩) := by
  have h : iblk m c 7 t (ix3 b k q) = (V m c main_v13 : FVec Ideal S4x1024x768 .bf16) (ix3 b k q) := by
    generalize hv : (V m c main_v13 : FVec Ideal S4x1024x768 .bf16) = v
    have : V m c main_v13 = v := hv
    blk_point [iblk, this, idx t]
  rw [h, blocks]

end Cert.InProjBwd
end
-- ==== Proof.InProjPay.lean ====
/- The gradient of the input projection: what the body computes from its blocks, in the reference's terms. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim
public import proofs.«01_k».proof.Proof.InProjBlocks
public import proofs.«01_k».proof.Proof.Rms

@[expose] public section

set_option maxRecDepth 16384

noncomputable section

namespace Cert.InProjBwd

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

open Cert.Reference6Ideal.Read

/-- Slice 0 of the stacked gradients, read without its unit axis. -/
theorem piece0 (mm : Memref sig .tc .vmem S3x512x512 .bf16) (h : mm.IsWhole) (X : Vec Ideal S3x512x512 .bf16) hn :
    View.read (Elt Ideal) ((mm.view.slice (Rect.unit (s := S3x512x512) ![0, 0, 0] ![1, 512, 512] inb_S3x512x512_S1x512x512_0_0_0)).reshape S512x512 hn) (h.unread X)
      = fun j => X (ix3 0 (j 0) (j 1)) := by
  funext j
  refine (congrFun (h.read_unread X) _ : _ = X ((Rect.unit (s := S3x512x512) ![0, 0, 0] ![1, 512, 512] inb_S3x512x512_S1x512x512_0_0_0).emb (Shape.reshapeEquiv hn j))).trans ?_
  change shapeCast S512x512 (View.ld X (Rect.unit (s := S3x512x512) ![0, 0, 0] ![1, 512, 512] inb_S3x512x512_S1x512x512_0_0_0)) hn j = _
  idx_vars j
  pointwise

/-- Slice 1 of the stacked gradients, read without its unit axis. -/
theorem piece1 (mm : Memref sig .tc .vmem S3x512x512 .bf16) (h : mm.IsWhole) (X : Vec Ideal S3x512x512 .bf16) hn :
    View.read (Elt Ideal) ((mm.view.slice (Rect.unit (s := S3x512x512) ![1, 0, 0] ![1, 512, 512] inb_S3x512x512_S1x512x512_1_0_0)).reshape S512x512 hn) (h.unread X)
      = fun j => X (ix3 1 (j 0) (j 1)) := by
  funext j
  refine (congrFun (h.read_unread X) _ : _ = X ((Rect.unit (s := S3x512x512) ![1, 0, 0] ![1, 512, 512] inb_S3x512x512_S1x512x512_1_0_0).emb (Shape.reshapeEquiv hn j))).trans ?_
  change shapeCast S512x512 (View.ld X (Rect.unit (s := S3x512x512) ![1, 0, 0] ![1, 512, 512] inb_S3x512x512_S1x512x512_1_0_0)) hn j = _
  idx_vars j
  pointwise

/-- Slice 2 of the stacked gradients, read without its unit axis. -/
theorem piece2 (mm : Memref sig .tc .vmem S3x512x512 .bf16) (h : mm.IsWhole) (X : Vec Ideal S3x512x512 .bf16) hn :
    View.read (Elt Ideal) ((mm.view.slice (Rect.unit (s := S3x512x512) ![2, 0, 0] ![1, 512, 512] inb_S3x512x512_S1x512x512_2_0_0)).reshape S512x512 hn) (h.unread X)
      = fun j => X (ix3 2 (j 0) (j 1)) := by
  funext j
  refine (congrFun (h.read_unread X) _ : _ = X ((Rect.unit (s := S3x512x512) ![2, 0, 0] ![1, 512, 512] inb_S3x512x512_S1x512x512_2_0_0).emb (Shape.reshapeEquiv hn j))).trans ?_
  change shapeCast S512x512 (View.ld X (Rect.unit (s := S3x512x512) ![2, 0, 0] ![1, 512, 512] inb_S3x512x512_S1x512x512_2_0_0)) hn j = _
  idx_vars j
  pointwise

/-- A sum cut in two. -/
theorem cut {a b n : ℕ} (h : a + b = n) (F : Fin n → EReal) :
    ∑ j, F j = (∑ j : Fin a, F ⟨j.val, by omega⟩) + ∑ q : Fin b, F ⟨a + q.val, by omega⟩ := by
  subst h
  exact Fin.sum_univ_add F

/-- The 3072 columns in the eight runs that the body multiplies one after the other. -/
theorem runs (F : Fin 3072 → EReal) :
    ∑ j, F j = (∑ q : Fin 512, F ⟨0 + q.val, by omega⟩) + (∑ q : Fin 256, F ⟨512 + q.val, by omega⟩) + (∑ q : Fin 256, F ⟨768 + q.val, by omega⟩) + (∑ q : Fin 512, F ⟨1024 + q.val, by omega⟩) + (∑ q : Fin 512, F ⟨1536 + q.val, by omega⟩) + (∑ q : Fin 256, F ⟨2048 + q.val, by omega⟩) + (∑ q : Fin 256, F ⟨2304 + q.val, by omega⟩) + (∑ q : Fin 512, F ⟨2560 + q.val, by omega⟩) := by
  rw [cut (a := 2560) (b := 512) rfl]
  rw [cut (a := 2304) (b := 256) rfl]
  rw [cut (a := 2048) (b := 256) rfl]
  rw [cut (a := 1536) (b := 512) rfl]
  rw [cut (a := 1024) (b := 512) rfl]
  rw [cut (a := 768) (b := 256) rfl]
  rw [cut (a := 512) (b := 256) rfl]
  simp only [zero_add]

/-- The body's eight products over runs of columns are one product over all columns. -/
theorem joinedProduct (D : Fin 512 → Fin 3072 → EReal) (W : Fin 1024 → Fin 3072 → EReal)
    (a0 : Vec Ideal S512x512 .bf16) (b0 : Vec Ideal S1x1024x512 .bf16) (a1 : Vec Ideal S512x256 .bf16) (b1 : Vec Ideal S1x1024x256 .bf16) (a2 : Vec Ideal S512x256 .bf16) (b2 : Vec Ideal S1x1024x256 .bf16) (a3 : Vec Ideal S512x512 .bf16) (b3 : Vec Ideal S1x1024x512 .bf16) (a4 : Vec Ideal S512x512 .bf16) (b4 : Vec Ideal S1x1024x512 .bf16) (a5 : Vec Ideal S512x256 .bf16) (b5 : Vec Ideal S1x1024x256 .bf16) (a6 : Vec Ideal S512x256 .bf16) (b6 : Vec Ideal S1x1024x256 .bf16) (a7 : Vec Ideal S512x512 .bf16) (b7 : Vec Ideal S1x1024x512 .bf16)
    (ha0 : ∀ (r : Fin 512) (q : Fin 512), a0 (ix2 r q) = D r ⟨0 + q.val, by omega⟩) (hb0 : ∀ (k : Fin 1024) (q : Fin 512), b0 (ix3 0 k q) = W k ⟨0 + q.val, by omega⟩)
    (ha1 : ∀ (r : Fin 512) (q : Fin 256), a1 (ix2 r q) = D r ⟨512 + q.val, by omega⟩) (hb1 : ∀ (k : Fin 1024) (q : Fin 256), b1 (ix3 0 k q) = W k ⟨512 + q.val, by omega⟩)
    (ha2 : ∀ (r : Fin 512) (q : Fin 256), a2 (ix2 r q) = D r ⟨768 + q.val, by omega⟩) (hb2 : ∀ (k : Fin 1024) (q : Fin 256), b2 (ix3 0 k q) = W k ⟨768 + q.val, by omega⟩)
    (ha3 : ∀ (r : Fin 512) (q : Fin 512), a3 (ix2 r q) = D r ⟨1024 + q.val, by omega⟩) (hb3 : ∀ (k : Fin 1024) (q : Fin 512), b3 (ix3 0 k q) = W k ⟨1024 + q.val, by omega⟩)
    (ha4 : ∀ (r : Fin 512) (q : Fin 512), a4 (ix2 r q) = D r ⟨1536 + q.val, by omega⟩) (hb4 : ∀ (k : Fin 1024) (q : Fin 512), b4 (ix3 0 k q) = W k ⟨1536 + q.val, by omega⟩)
    (ha5 : ∀ (r : Fin 512) (q : Fin 256), a5 (ix2 r q) = D r ⟨2048 + q.val, by omega⟩) (hb5 : ∀ (k : Fin 1024) (q : Fin 256), b5 (ix3 0 k q) = W k ⟨2048 + q.val, by omega⟩)
    (ha6 : ∀ (r : Fin 512) (q : Fin 256), a6 (ix2 r q) = D r ⟨2304 + q.val, by omega⟩) (hb6 : ∀ (k : Fin 1024) (q : Fin 256), b6 (ix3 0 k q) = W k ⟨2304 + q.val, by omega⟩)
    (ha7 : ∀ (r : Fin 512) (q : Fin 512), a7 (ix2 r q) = D r ⟨2560 + q.val, by omega⟩) (hb7 : ∀ (k : Fin 1024) (q : Fin 512), b7 (ix3 0 k q) = W k ⟨2560 + q.val, by omega⟩)
    (r : Fin 512) (k : Fin 1024) :
    k0_pay2 (F := Ideal) (k0_pay1 (F := Ideal) a0 b0 a1 b1 a2 b2) a3 b3 a4 b4 a5 b5 a6 b6 a7 b7 (ix2 r k) = ∑ j, D r j * W k j := by
  pointwise [k0_pay2, k0_pay1]
  rw [runs]
  simp only [ha0, hb0, ha1, hb1, ha2, hb2, ha3, hb3, ha4, hb4, ha5, hb5, ha6, hb6, ha7, hb7]

/-- The reference's gradient of the normed activations, on device `c`. -/
abbrev dN (c : Dev nD) : FVec Ideal S4096x1024 .f32 := val_main_v16 (F := Ideal) (dp m c) (wi m c)

/-- The block of window 4, as a function of its index. -/
theorem whole4 (c : Dev nD) (t : Fin cfg0.N) : (iblk m c 4 t : FVec Ideal S512x1024 .f32) = fun i => dh m c (ix2 (row t (i 0)) (i 1)) :=
  funext fun i => (congrArg (iblk m c 4 t : FVec Ideal S512x1024 .f32) (ix2_eta i).symm).trans (blk4 m c t (i 0) (i 1))

/-- The block of window 5, as a function of its index. -/
theorem whole5 (c : Dev nD) (t : Fin cfg0.N) : (iblk m c 5 t : FVec Ideal S512x1024 .f32) = fun i => xx m c (ix2 (row t (i 0)) (i 1)) :=
  funext fun i => (congrArg (iblk m c 5 t : FVec Ideal S512x1024 .f32) (ix2_eta i).symm).trans (blk5 m c t (i 0) (i 1))

/-- The block of window 6, as a function of its index. -/
theorem whole6 (c : Dev nD) (t : Fin cfg0.N) : (iblk m c 6 t : FVec Ideal S1x1024 .f32) = fun i => g m c (ix2 (i 0) (i 1)) :=
  funext fun i => (congrArg (iblk m c 6 t : FVec Ideal S1x1024 .f32) (ix2_eta i).symm).trans (blk6 m c t (i 0) (i 1))

/-- The body's gradient of the normed activations is the reference's. -/
theorem product (c : Dev nD) (t : Fin cfg0.N) (s0 s1 s2 : Vec Ideal S512x512 .bf16)
    (h0 : s0 = fun j => (iblk m c 0 t : Vec Ideal S3x512x512 .bf16) (ix3 0 (j 0) (j 1))) (h1 : s1 = fun j => (iblk m c 0 t : Vec Ideal S3x512x512 .bf16) (ix3 1 (j 0) (j 1)))
    (h2 : s2 = fun j => (iblk m c 0 t : Vec Ideal S3x512x512 .bf16) (ix3 2 (j 0) (j 1))) :
    k0_pay2 (F := Ideal) (k0_pay1 (F := Ideal) s0 (View.ld (iblk m c 7 t : Vec Ideal S4x1024x768 .bf16) (Rect.unit (s := S4x1024x768) ![0, 0, 0] ![1, 1024, 512] inb_S4x1024x768_S1x1024x512_0_0_0)) (View.ld (s1 : Vec Ideal S512x512 .bf16) (Rect.unit (s := S512x512) ![0, 0] ![512, 256] inb_S512x512_S512x256_0_0)) (View.ld (iblk m c 7 t : Vec Ideal S4x1024x768 .bf16) (Rect.unit (s := S4x1024x768) ![0, 0, 512] ![1, 1024, 256] inb_S4x1024x768_S1x1024x256_0_0_512)) (View.ld (s1 : Vec Ideal S512x512 .bf16) (Rect.unit (s := S512x512) ![0, 256] ![512, 256] inb_S512x512_S512x256_0_256)) (View.ld (iblk m c 7 t : Vec Ideal S4x1024x768 .bf16) (Rect.unit (s := S4x1024x768) ![1, 0, 0] ![1, 1024, 256] inb_S4x1024x768_S1x1024x256_1_0_0))) s2 (View.ld (iblk m c 7 t : Vec Ideal S4x1024x768 .bf16) (Rect.unit (s := S4x1024x768) ![1, 0, 256] ![1, 1024, 512] inb_S4x1024x768_S1x1024x512_1_0_256)) (iblk m c 1 t) (View.ld (iblk m c 7 t : Vec Ideal S4x1024x768 .bf16) (Rect.unit (s := S4x1024x768) ![2, 0, 0] ![1, 1024, 512] inb_S4x1024x768_S1x1024x512_2_0_0)) (View.ld (iblk m c 2 t : Vec Ideal S512x512 .bf16) (Rect.unit (s := S512x512) ![0, 0] ![512, 256] inb_S512x512_S512x256_0_0)) (View.ld (iblk m c 7 t : Vec Ideal S4x1024x768 .bf16) (Rect.unit (s := S4x1024x768) ![2, 0, 512] ![1, 1024, 256] inb_S4x1024x768_S1x1024x256_2_0_512)) (View.ld (iblk m c 2 t : Vec Ideal S512x512 .bf16) (Rect.unit (s := S512x512) ![0, 256] ![512, 256] inb_S512x512_S512x256_0_256)) (View.ld (iblk m c 7 t : Vec Ideal S4x1024x768 .bf16) (Rect.unit (s := S4x1024x768) ![3, 0, 0] ![1, 1024, 256] inb_S4x1024x768_S1x1024x256_3_0_0)) (iblk m c 3 t) (View.ld (iblk m c 7 t : Vec Ideal S4x1024x768 .bf16) (Rect.unit (s := S4x1024x768) ![3, 0, 256] ![1, 1024, 512] inb_S4x1024x768_S1x1024x512_3_0_256))
      = fun i => dN m c (ix2 (row t (i 0)) (i 1)) := by
  subst h0 h1 h2
  funext y
  obtain ⟨r, k, rfl⟩ : ∃ r k, y = ix2 r k := ⟨y 0, y 1, (ix2_eta y).symm⟩
  refine (joinedProduct (fun r j => dp m c (ix2 (row t r) j)) (fun k j => wi m c (ix2 k j)) _ _ _ _ _ _ _ _ _ _ _ _ _ _ _ _
    ?_ ?_ ?_ ?_ ?_ ?_ ?_ ?_ ?_ ?_ ?_ ?_ ?_ ?_ ?_ ?_ r k).trans ?_
  · intro r q
    exact stack0 m c t r q
  · intro k q
    rw [View.ld_unit_apply_of _ _ _ _ _ (ix3 0 k ⟨0 + q.val, by omega⟩) (fun a => by fin_cases a <;> simp)]
    exact (blk7 m c t 0 k ⟨0 + q.val, by omega⟩).trans (congrArg _ (congrArg (ix2 _) (Fin.ext (by simp <;> omega))))
  · intro r q
    rw [View.ld_unit_apply_of _ _ _ _ _ (ix2 r ⟨0 + q.val, by omega⟩) (fun a => by fin_cases a <;> simp)]
    exact (stack1 m c t r ⟨0 + q.val, by omega⟩).trans (congrArg _ (congrArg (ix2 _) (Fin.ext (by simp <;> omega))))
  · intro k q
    rw [View.ld_unit_apply_of _ _ _ _ _ (ix3 0 k ⟨512 + q.val, by omega⟩) (fun a => by fin_cases a <;> simp)]
    exact (blk7 m c t 0 k ⟨512 + q.val, by omega⟩).trans (congrArg _ (congrArg (ix2 _) (Fin.ext (by simp <;> omega))))
  · intro r q
    rw [View.ld_unit_apply_of _ _ _ _ _ (ix2 r ⟨256 + q.val, by omega⟩) (fun a => by fin_cases a <;> simp)]
    exact (stack1 m c t r ⟨256 + q.val, by omega⟩).trans (congrArg _ (congrArg (ix2 _) (Fin.ext (by simp <;> omega))))
  · intro k q
    rw [View.ld_unit_apply_of _ _ _ _ _ (ix3 1 k ⟨0 + q.val, by omega⟩) (fun a => by fin_cases a <;> simp)]
    exact (blk7 m c t 1 k ⟨0 + q.val, by omega⟩).trans (congrArg _ (congrArg (ix2 _) (Fin.ext (by simp <;> omega))))
  · intro r q
    exact stack2 m c t r q
  · intro k q
    rw [View.ld_unit_apply_of _ _ _ _ _ (ix3 1 k ⟨256 + q.val, by omega⟩) (fun a => by fin_cases a <;> simp)]
    exact (blk7 m c t 1 k ⟨256 + q.val, by omega⟩).trans (congrArg _ (congrArg (ix2 _) (Fin.ext (by simp <;> omega))))
  · intro r q
    exact lane1 m c t r q
  · intro k q
    rw [View.ld_unit_apply_of _ _ _ _ _ (ix3 2 k ⟨0 + q.val, by omega⟩) (fun a => by fin_cases a <;> simp)]
    exact (blk7 m c t 2 k ⟨0 + q.val, by omega⟩).trans (congrArg _ (congrArg (ix2 _) (Fin.ext (by simp <;> omega))))
  · intro r q
    rw [View.ld_unit_apply_of _ _ _ _ _ (ix2 r ⟨0 + q.val, by omega⟩) (fun a => by fin_cases a <;> simp)]
    exact (lane2 m c t r ⟨0 + q.val, by omega⟩).trans (congrArg _ (congrArg (ix2 _) (Fin.ext (by simp <;> omega))))
  · intro k q
    rw [View.ld_unit_apply_of _ _ _ _ _ (ix3 2 k ⟨512 + q.val, by omega⟩) (fun a => by fin_cases a <;> simp)]
    exact (blk7 m c t 2 k ⟨512 + q.val, by omega⟩).trans (congrArg _ (congrArg (ix2 _) (Fin.ext (by simp <;> omega))))
  · intro r q
    rw [View.ld_unit_apply_of _ _ _ _ _ (ix2 r ⟨256 + q.val, by omega⟩) (fun a => by fin_cases a <;> simp)]
    exact (lane2 m c t r ⟨256 + q.val, by omega⟩).trans (congrArg _ (congrArg (ix2 _) (Fin.ext (by simp <;> omega))))
  · intro k q
    rw [View.ld_unit_apply_of _ _ _ _ _ (ix3 3 k ⟨0 + q.val, by omega⟩) (fun a => by fin_cases a <;> simp)]
    exact (blk7 m c t 3 k ⟨0 + q.val, by omega⟩).trans (congrArg _ (congrArg (ix2 _) (Fin.ext (by simp <;> omega))))
  · intro r q
    exact lane3 m c t r q
  · intro k q
    rw [View.ld_unit_apply_of _ _ _ _ _ (ix3 3 k ⟨256 + q.val, by omega⟩) (fun a => by fin_cases a <;> simp)]
    exact (blk7 m c t 3 k ⟨256 + q.val, by omega⟩).trans (congrArg _ (congrArg (ix2 _) (Fin.ext (by simp <;> omega))))
  · pointwise [val_main_v16]

/-- From the gradient of the normed activations the body makes the gradient of the block's input. -/
theorem pay5 (c : Dev nD) (t : Fin cfg0.N) (y : S512x1024.Idx) :
    k0_pay5 (F := Ideal) (fun i => dN m c (ix2 (row t (i 0)) (i 1))) (iblk m c 5 t) (iblk m c 6 t) (iblk m c 4 t) y
      = val_main_v36 (F := Ideal) (dp m c) (dh m c) (xx m c) (g m c) (wi m c) (ix2 (row t (y 0)) (y 1)) := by
  obtain ⟨r, k, rfl⟩ : ∃ r k, y = ix2 r k := ⟨y 0, y 1, (ix2_eta y).symm⟩
  rw [show (iblk m c 5 t : FVec Ideal S512x1024 .f32) = _ from whole5 m c t, show (iblk m c 6 t : FVec Ideal S1x1024 .f32) = _ from whole6 m c t,
    show (iblk m c 4 t : FVec Ideal S512x1024 .f32) = _ from whole4 m c t]
  generalize hv : dN m c = v
  have hv' : val_main_v16 (F := Ideal) (dp m c) (wi m c) = v := hv
  pointwise [k0_pay5, k0_pay4, k0_pay3, val_main_v0, val_main_v1, val_main_v2, val_main_v3, val_main_v4, val_main_v5, val_main_v6, val_main_v7, val_main_v8, val_main_v9, val_main_v10, val_main_v11, val_main_v12, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_4, val_main_cst_5, val_main_cst_6]
  simp only [hv', Fin.sum_univ_one]
  obtain ⟨e, he, he'⟩ := Cert.Rms.ofBits_eps
  refine congrArg (fun z : EReal => _ + z) ((Cert.Rms.grad Cert.Rms.ofBits_1024 (by norm_num) he' he Cert.Rms.ofBits_neg_half (fun x => xx m c (ix2 (row t r) x)) (fun x => v (ix2 (row t r) x) * g m c (ix2 0 x)) k).trans ?_)
  rfl

/-- The norm gain's gradient starts from zero. -/
theorem pay6 (y : S1x1024.Idx) : k0_pay6 (F := Ideal) y = 0 := by
  pointwise [k0_pay6]

set_option maxHeartbeats 2000000 in
/-- The body adds its block of rows to the gradient of the norm's gain. -/
theorem pay7 (O : FVec Ideal S1x1024 .f32) (c : Dev nD) (t : Fin cfg0.N) (y : S1x1024.Idx) :
    k0_pay7 (F := Ideal) (fun i => dN m c (ix2 (row t (i 0)) (i 1))) (iblk m c 5 t) O y
      = O y + ∑ x : Fin 512, val_main_v17 (F := Ideal) (dp m c) (xx m c) (wi m c) (ix2 (row t x) (y 1)) := by
  obtain ⟨r, k, rfl⟩ : ∃ r k, y = ix2 r k := ⟨y 0, y 1, (ix2_eta y).symm⟩
  rw [show (iblk m c 5 t : FVec Ideal S512x1024 .f32) = _ from whole5 m c t]
  generalize hv : dN m c = v
  have hv' : val_main_v16 (F := Ideal) (dp m c) (wi m c) = v := hv
  pointwise [k0_pay7, k0_pay4, k0_pay3, val_main_v0, val_main_v1, val_main_v2, val_main_v3, val_main_v4, val_main_v5, val_main_v6, val_main_v7, val_main_v8, val_main_v9, val_main_v10, val_main_v11, val_main_v12, val_main_v17, val_main_cst, val_main_cst_0, val_main_cst_1, val_main_cst_2]
  simp only [hv']
  refine congrArg (fun z : EReal => _ + z) (Finset.sum_congr rfl fun x _ => mul_comm (G := EReal) _ _)

end Cert.InProjBwd
end
-- ==== Proof.InProjBwd.lean ====
/- The gradient of the input projection: the arrays that the call leaves are the reference's. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim
public import proofs.«01_k».proof.Proof.InProjPay

@[expose] public section

set_option maxRecDepth 16384

noncomputable section

namespace Cert.InProjBwd

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

open Cert.Reference6Ideal.Read

theorem dx_A (c : Dev nD) (t : Fin cfg0.N) (h : t.val % 8 = 0) :
    (outsAt0 m c t.val t.isLt).1 = k0_pay5 (F := Ideal) (fun i => dN m c (ix2 (row t (i 0)) (i 1))) (iblk m c 5 t) (iblk m c 6 t) (iblk m c 4 t) := by
  rw [outsAt0_A m c t h]
  frame_out
  exact congrArg (fun D => k0_pay5 (F := Ideal) D (iblk m c 5 t) (iblk m c 6 t) (iblk m c 4 t)) (product m c t _ _ _ (piece0 _ _ _ _) (piece1 _ _ _ _) (piece2 _ _ _ _))

theorem dx_B (c : Dev nD) (t : Fin cfg0.N) (h : ¬t.val % 8 = 0) :
    (outsAt0 m c t.val t.isLt).1 = k0_pay5 (F := Ideal) (fun i => dN m c (ix2 (row t (i 0)) (i 1))) (iblk m c 5 t) (iblk m c 6 t) (iblk m c 4 t) := by
  rw [outsAt0_B m c t h]
  frame_out
  exact congrArg (fun D => k0_pay5 (F := Ideal) D (iblk m c 5 t) (iblk m c 6 t) (iblk m c 4 t)) (product m c t _ _ _ (piece0 _ _ _ _) (piece1 _ _ _ _) (piece2 _ _ _ _))

theorem gain_A (c : Dev nD) (t : Fin cfg0.N) (h : t.val % 8 = 0) :
    (outsAt0 m c t.val t.isLt).2 = k0_pay7 (F := Ideal) (fun i => dN m c (ix2 (row t (i 0)) (i 1))) (iblk m c 5 t) (k0_pay6 (F := Ideal)) := by
  rw [outsAt0_A m c t h]
  frame_out
  exact congrArg (fun D => k0_pay7 (F := Ideal) D (iblk m c 5 t) (k0_pay6 (F := Ideal))) (product m c t _ _ _ (piece0 _ _ _ _) (piece1 _ _ _ _) (piece2 _ _ _ _))

theorem gain_B (c : Dev nD) (t : Fin cfg0.N) (h : ¬t.val % 8 = 0) :
    (outsAt0 m c t.val t.isLt).2 = k0_pay7 (F := Ideal) (fun i => dN m c (ix2 (row t (i 0)) (i 1))) (iblk m c 5 t) (outsAt0 m c (t.val - 1) (Nat.lt_of_le_of_lt (Nat.sub_le _ _) t.isLt)).2 := by
  rw [outsAt0_B m c t h]
  frame_out
  exact congrArg (fun D => k0_pay7 (F := Ideal) D (iblk m c 5 t) (outsAt0 m c (t.val - 1) (Nat.lt_of_le_of_lt (Nat.sub_le _ _) t.isLt)).2) (product m c t _ _ _ (piece0 _ _ _ _) (piece1 _ _ _ _) (piece2 _ _ _ _))

/-- The gradient of the block's input after every grid point. -/
theorem dx (c : Dev nD) (t : Fin cfg0.N) (y : S512x1024.Idx) :
    (outsAt0 m c t.val t.isLt).1 y = val_main_v36 (F := Ideal) (dp m c) (dh m c) (xx m c) (g m c) (wi m c) (ix2 (row t (y 0)) (y 1)) := by
  refine Eq.trans (congrFun ?_ y) (pay5 m c t y)
  by_cases h : t.val % 8 = 0
  · exact dx_A m c t h
  · exact dx_B m c t h

/-- The gradient of the block's input. -/
theorem final8 (c : Dev nD) : (dats m 0 c).arrAt 8 (cfgs 0).N = val_main_v36 (F := Ideal) (dp m c) (dh m c) (xx m c) (g m c) (wi m c) := by
  refine (dats m 0 c).arrAt_eq_of_covers 8 _ (by decide +kernel) fun t hf y => ?_
  blk_simp
  rw [after0_8, dx]
  blk_point [idx t]

/-- The rows that grid point `t` adds to the gradient of the norm's gain. -/
noncomputable def gpart (c : Dev nD) (t : Fin cfg0.N) (k : Fin 1024) : EReal :=
  ∑ x : Fin 512, val_main_v17 (F := Ideal) (dp m c) (xx m c) (wi m c) (ix2 (row t x) k)

theorem gain_first (c : Dev nD) (y : S1x1024.Idx) (t : Fin cfg0.N) (h : t.val % 8 = 0) :
    (outsAt0 m c t.val t.isLt).2 y = 0 + gpart m c t (y 1) := by
  rw [gain_A m c t h, pay7, pay6]
  rfl

theorem gain_next (c : Dev nD) (y : S1x1024.Idx) (t : Fin cfg0.N) (h : ¬t.val % 8 = 0) :
    (outsAt0 m c t.val t.isLt).2 y = (outsAt0 m c (t.val - 1) (Nat.lt_of_le_of_lt (Nat.sub_le _ _) t.isLt)).2 y + gpart m c t (y 1) := by
  rw [gain_B m c t h, pay7]
  rfl

/-- The gradient of the norm's gain. -/
theorem final9 (c : Dev nD) : (dats m 0 c).arrAt 9 (cfgs 0).N = val_main_v19 (F := Ideal) (dp m c) (xx m c) (wi m c) := by
  refine (dats m 0 c).arrAt_eq_of_covers 9 _ (by decide +kernel) fun t hf y => ?_
  have hl : t.val + 1 = cfg0.N := by have := (flush0_9 t).mp hf; have := lt_of_lt_of_eq t.isLt N_0; exact (show t.val + 1 = 8 by omega).trans N_0.symm
  have key : ∀ y : S1x1024.Idx, (outsAt0 m c t.val t.isLt).2 y = val_main_v19 (F := Ideal) (dp m c) (xx m c) (wi m c) y := by
    intro y
    rw [Pipeline.eq_sum_fin_of_reset_step_last (fun n h => (outsAt0 m c n h).2 y) 8 0 (fun t => gpart m c t (y 1))
      (fun t h => gain_first m c y t h) (fun t h => gain_next m c y t h) N_0.le t hl, zero_add]
    obtain ⟨r, k, rfl⟩ : ∃ r k, y = ix2 r k := ⟨y 0, y 1, (ix2_eta y).symm⟩
    generalize hv : val_main_v17 (F := Ideal) (dp m c) (xx m c) (wi m c) = v
    have hg : ∀ p, gpart m c p k = ∑ x : Fin 512, v (ix2 (row p x) k) := by
      intro p; rw [← hv]; rfl
    pointwise [val_main_v19, val_main_v18, val_main_cst_3]
    rw [hv]
    simp only [hg]
    exact Fin.sum_mul_add_congr fun q x hl => congrArg v (congrArg₂ ix2 (Fin.ext (by simp)) rfl)
  blk_simp
  rw [after0_9, key]
  blk_point [idx t]

end Cert.InProjBwd
end
-- ==== Proof.TailPay.lean ====
/- The gate and the loss: what each step of the body computes from a block of rows, in the reference's terms. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.Claim
public import proofs.«01_k».proof.Proof.Rms

@[expose] public section

set_option maxRecDepth 16384

noncomputable section

namespace Cert.Tail

open Cert.Kernel7Ideal Cert.Kernel7Ideal.Gen Idealize.ShloMosaic Idealize.ShloMosaic.TcCoe Idealize.SL.Sem
open Cert.Reference7Ideal.Read

variable (x0 : FVec Ideal S4096x1024 .f32) (x1 : FVec Ideal S4096x256 .f32) (x2 : FVec Ideal S4096x1024 .f32)
  (x3 x4 : FVec Ideal S1x1024 .f32) (x5 : FVec Ideal S1024x1024 .f32) (x6 : FVec Ideal S256x1024 .f32) (ρ : Fin 256 → Fin 4096)

/-- One over the number of features, as the body writes it. -/
theorem ofBits_inv : Ideal.ofBits .f32 0x3A800000#32 = ((1 / 1024 : ℝ) : EReal) := by
  simp [Ideal.ofBits, Ideal.ieee, -EReal.coe_mul]; norm_num

/-- A half. -/
theorem ofBits_half : Ideal.ofBits .f32 0x3F000000#32 = ((1 / 2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- The 256 rows `ρ` of a whole array, as the body sees them. -/
abbrev rows (X : FVec Ideal S4096x1024 .f32) : FVec Ideal S256x1024 .f32 := fun i => X (ix2 (ρ (i 0)) (i 1))

/-- The normed residual stream. -/
abbrev N3 : FVec Ideal S4096x1024 .f32 := val_main_v14 (F := Ideal) x0 x3
/-- The gate. -/
abbrev Gt : FVec Ideal S4096x1024 .f32 := val_main_v22 (F := Ideal) x0 x3 x5
/-- The projected embeddings. -/
abbrev Pp : FVec Ideal S4096x1024 .f32 := val_main_v16 (F := Ideal) x1 x6
/-- The gated residual stream. -/
abbrev H3 : FVec Ideal S4096x1024 .f32 := val_main_v27 (F := Ideal) x0 x1 x3 x5 x6
/-- The output's distance from the target. -/
abbrev Er : FVec Ideal S4096x1024 .f32 := val_main_v43 (F := Ideal) x0 x1 x2 x3 x4 x5 x6
/-- The loss's gradient at the output. -/
abbrev Dy : FVec Ideal S4096x1024 .f32 := val_main_v57 (F := Ideal) x0 x1 x2 x3 x4 x5 x6
/-- The gradient of the gated residual stream. -/
abbrev D3 : FVec Ideal S4096x1024 .f32 := val_main_v76 (F := Ideal) x0 x1 x2 x3 x4 x5 x6
/-- The gradient of the gate's logits. -/
abbrev Dl : FVec Ideal S4096x1024 .f32 := val_main_v79 (F := Ideal) x0 x1 x2 x3 x4 x5 x6
/-- The gradient of the normed residual stream. -/
abbrev Dn : FVec Ideal S4096x1024 .f32 := val_main_v80 (F := Ideal) x0 x1 x2 x3 x4 x5 x6

/-- The normed residual stream. -/
theorem norm : k0_pay9 (F := Ideal) (rows ρ x0) x3 = rows ρ (N3 x0 x3) := by
  funext i
  obtain ⟨r, k, rfl⟩ : ∃ r k, i = ix2 r k := ⟨i 0, i 1, (ix2_eta i).symm⟩
  pointwise [rows, k0_pay9, val_main_v14, val_main_v13, val_main_v12, val_main_v11, val_main_v7, val_main_v6, val_main_v5, val_main_v4, val_main_v3, val_main_v2, val_main_v1, val_main_v0, val_main_cst, val_main_cst_0, val_main_cst_1]

/-- The gate. -/
theorem gate : k0_pay10 (F := Ideal) (rows ρ x0) x3 x5 = rows ρ (Gt x0 x3 x5) := by
  funext i
  obtain ⟨r, k, rfl⟩ : ∃ r k, i = ix2 r k := ⟨i 0, i 1, (ix2_eta i).symm⟩
  unfold k0_pay10
  rw [norm]
  generalize hv : N3 x0 x3 = v
  have hv' : val_main_v14 (F := Ideal) x0 x3 = v := hv
  pointwise [val_main_v22, val_main_v21, val_main_v20, val_main_v19, val_main_v18, val_main_v17, val_main_v15, val_main_cst_3, val_main_cst_4]
  simp only [hv']
  rfl

/-- The gated residual stream. -/
theorem gated : k0_pay16 (F := Ideal) (rows ρ x0) (rows ρ (Gt x0 x3 x5)) (rows ρ (Pp x1 x6)) = rows ρ (H3 x0 x1 x3 x5 x6) := rfl

/-- The distance from the target. -/
theorem dist : k0_pay18 (F := Ideal) (rows ρ (H3 x0 x1 x3 x5 x6)) x4 (k0_pay17 (F := Ideal) (rows ρ x0) (rows ρ (Gt x0 x3 x5)) (rows ρ (Pp x1 x6))) (rows ρ x2)
    = rows ρ (Er x0 x1 x2 x3 x4 x5 x6) := by
  funext i
  obtain ⟨r, k, rfl⟩ : ∃ r k, i = ix2 r k := ⟨i 0, i 1, (ix2_eta i).symm⟩
  unfold k0_pay17
  rw [gated]
  generalize hv : H3 x0 x1 x3 x5 x6 = v
  have hv' : val_main_v27 (F := Ideal) x0 x1 x3 x5 x6 = v := hv
  pointwise [rows, k0_pay18, val_main_v43, val_main_v42, val_main_v41, val_main_v40, val_main_v39, val_main_v35, val_main_v34, val_main_v33, val_main_v32, val_main_v31, val_main_v30, val_main_v29, val_main_v28, val_main_cst_6, val_main_cst_7, val_main_cst_8]
  simp only [hv']

/-- The loss's gradient at the output. -/
theorem seed (h R tg : FVec Ideal S256x1024 .f32) (w : FVec Ideal S1x1024 .f32)
    (e : k0_pay18 (F := Ideal) h w R tg = rows ρ (Er x0 x1 x2 x3 x4 x5 x6)) :
    k0_pay20 (F := Ideal) h w R tg = rows ρ (Dy x0 x1 x2 x3 x4 x5 x6) := by
  funext i
  obtain ⟨r, k, rfl⟩ : ∃ r k, i = ix2 r k := ⟨i 0, i 1, (ix2_eta i).symm⟩
  unfold k0_pay20
  rw [e]
  generalize hv : Er x0 x1 x2 x3 x4 x5 x6 = v
  have hv' : val_main_v43 (F := Ideal) x0 x1 x2 x3 x4 x5 x6 = v := hv
  pointwise [val_main_v57, val_main_v56, val_main_v55, val_main_v54, val_main_v53, val_main_v52, val_main_v46, val_main_v45, val_main_cst_10, val_main_cst_15, val_main_cst_16, val_main_cst_17]
  simp only [hv']
  rw [ofBits_inv, ofBits_half, ofBits_two, Cert.Rms.ofBits_1024, Ideal.div_coe (by norm_num), ← mul_assoc, ← EReal.coe_mul, ← EReal.coe_mul, mul_comm]
  norm_num
  rfl

set_option maxHeartbeats 2000000 in
/-- The gradient of the gated residual stream. -/
theorem back3 (R tg : FVec Ideal S256x1024 .f32)
    (e : k0_pay20 (F := Ideal) (rows ρ (H3 x0 x1 x3 x5 x6)) x4 R tg = rows ρ (Dy x0 x1 x2 x3 x4 x5 x6)) :
    k0_pay23 (F := Ideal) (rows ρ (H3 x0 x1 x3 x5 x6)) x4 R tg x4 = rows ρ (D3 x0 x1 x2 x3 x4 x5 x6) := by
  funext i
  obtain ⟨r, k, rfl⟩ : ∃ r k, i = ix2 r k := ⟨i 0, i 1, (ix2_eta i).symm⟩
  unfold k0_pay23
  rw [e]
  clear e
  generalize hv : H3 x0 x1 x3 x5 x6 = v
  have hv' : val_main_v27 (F := Ideal) x0 x1 x3 x5 x6 = v := hv
  generalize hw : Dy x0 x1 x2 x3 x4 x5 x6 = w
  have hw' : val_main_v57 (F := Ideal) x0 x1 x2 x3 x4 x5 x6 = w := hw
  pointwise [k0_pay22, k0_pay21, val_main_v76, val_main_v75, val_main_v74, val_main_v73, val_main_v72, val_main_v71, val_main_v70, val_main_v69, val_main_v68, val_main_v67, val_main_v66, val_main_v65, val_main_v64, val_main_v63, val_main_v62, val_main_v61, val_main_v38, val_main_v37, val_main_v36, val_main_v35, val_main_v34, val_main_v33, val_main_v32, val_main_v31, val_main_v30, val_main_v29, val_main_v28, val_main_cst_6, val_main_cst_7, val_main_cst_8, val_main_cst_9, val_main_cst_19, val_main_cst_20, val_main_cst_21]
  simp only [hv', hw', Fin.sum_univ_one]
  obtain ⟨e, he, he'⟩ := Cert.Rms.ofBits_eps
  refine (Cert.Rms.grad Cert.Rms.ofBits_1024 (by norm_num) he' he Cert.Rms.ofBits_neg_half (fun x => v (ix2 (ρ r) x)) (fun x => w (ix2 (ρ r) x) * x4 (ix2 0 x)) k).trans ?_
  rfl

/-- The gradient of the projected embeddings. -/
theorem backp (R tg : FVec Ideal S256x1024 .f32)
    (e : k0_pay23 (F := Ideal) (rows ρ (H3 x0 x1 x3 x5 x6)) x4 R tg x4 = rows ρ (D3 x0 x1 x2 x3 x4 x5 x6)) :
    k0_pay25 (F := Ideal) (rows ρ (Gt x0 x3 x5)) (rows ρ (H3 x0 x1 x3 x5 x6)) x4 R tg x4 = rows ρ (val_main_v104 (F := Ideal) x0 x1 x2 x3 x4 x5 x6) := by
  unfold k0_pay25
  rw [e]
  funext i
  exact mul_comm (G := EReal) _ _

/-- The gradient of the gate's logits. -/
theorem backl : k0_pay26 (F := Ideal) (rows ρ (Gt x0 x3 x5)) (rows ρ (Pp x1 x6)) (rows ρ (D3 x0 x1 x2 x3 x4 x5 x6)) = rows ρ (Dl x0 x1 x2 x3 x4 x5 x6) := by
  funext i
  obtain ⟨r, k, rfl⟩ : ∃ r k, i = ix2 r k := ⟨i 0, i 1, (ix2_eta i).symm⟩
  generalize hv : Gt x0 x3 x5 = v
  have hv' : val_main_v22 (F := Ideal) x0 x3 x5 = v := hv
  generalize hw : Pp x1 x6 = w
  have hw' : val_main_v16 (F := Ideal) x1 x6 = w := hw
  generalize hz : D3 x0 x1 x2 x3 x4 x5 x6 = z
  have hz' : val_main_v76 (F := Ideal) x0 x1 x2 x3 x4 x5 x6 = z := hz
  pointwise [k0_pay26, val_main_v79, val_main_v78, val_main_v25, val_main_v24, val_main_v23, val_main_cst_5]
  simp only [hv', hw', hz']
  exact mul_assoc (G := EReal) _ _ _

/-- The gradient of the normed residual stream. -/
theorem backn : k0_pay27 (F := Ideal) (rows ρ (Gt x0 x3 x5)) (rows ρ (Pp x1 x6)) (rows ρ (D3 x0 x1 x2 x3 x4 x5 x6)) x5 = rows ρ (Dn x0 x1 x2 x3 x4 x5 x6) := by
  funext i
  obtain ⟨r, k, rfl⟩ : ∃ r k, i = ix2 r k := ⟨i 0, i 1, (ix2_eta i).symm⟩
  unfold k0_pay27
  rw [backl]
  generalize hv : Dl x0 x1 x2 x3 x4 x5 x6 = v
  have hv' : val_main_v79 (F := Ideal) x0 x1 x2 x3 x4 x5 x6 = v := hv
  pointwise [rows, val_main_v80]
  simp only [hv']

set_option maxHeartbeats 2000000 in
/-- The gradient of the call's input. -/
theorem back : k0_pay31 (F := Ideal) (rows ρ x0) (rows ρ (Gt x0 x3 x5)) (rows ρ (Pp x1 x6)) (rows ρ (D3 x0 x1 x2 x3 x4 x5 x6)) x5 x3
    = rows ρ (val_main_v100 (F := Ideal) x0 x1 x2 x3 x4 x5 x6) := by
  funext i
  obtain ⟨r, k, rfl⟩ : ∃ r k, i = ix2 r k := ⟨i 0, i 1, (ix2_eta i).symm⟩
  unfold k0_pay31
  rw [backn]
  generalize hv : D3 x0 x1 x2 x3 x4 x5 x6 = v
  have hv' : val_main_v76 (F := Ideal) x0 x1 x2 x3 x4 x5 x6 = v := hv
  generalize hw : Dn x0 x1 x2 x3 x4 x5 x6 = w
  have hw' : val_main_v80 (F := Ideal) x0 x1 x2 x3 x4 x5 x6 = w := hw
  pointwise [k0_pay29, k0_pay28, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v10, val_main_v9, val_main_v8, val_main_v7, val_main_v6, val_main_v5, val_main_v4, val_main_v3, val_main_v2, val_main_v1, val_main_v0, val_main_cst, val_main_cst_0, val_main_cst_1, val_main_cst_2, val_main_cst_23, val_main_cst_24, val_main_cst_25]
  simp only [hv', hw', Fin.sum_univ_one]
  obtain ⟨e, he, he'⟩ := Cert.Rms.ofBits_eps
  refine congrArg (fun z : EReal => _ + z) ((Cert.Rms.grad Cert.Rms.ofBits_1024 (by norm_num) he' he Cert.Rms.ofBits_neg_half (fun x => x0 (ix2 (ρ r) x)) (fun x => w (ix2 (ρ r) x) * x3 (ix2 0 x)) k).trans ?_)
  rfl

/-- The rows' part of the gradient of the final norm's gain. -/
theorem gainf (R tg : FVec Ideal S256x1024 .f32)
    (e : k0_pay20 (F := Ideal) (rows ρ (H3 x0 x1 x3 x5 x6)) x4 R tg = rows ρ (Dy x0 x1 x2 x3 x4 x5 x6)) (y : S1x1024.Idx) :
    k0_pay24 (F := Ideal) (rows ρ (H3 x0 x1 x3 x5 x6)) x4 R tg y = ∑ x : Fin 256, val_main_v58 (F := Ideal) x0 x1 x2 x3 x4 x5 x6 (ix2 (ρ x) (y 1)) := by
  obtain ⟨r, k, rfl⟩ : ∃ r k, y = ix2 r k := ⟨y 0, y 1, (ix2_eta y).symm⟩
  unfold k0_pay24
  rw [e]
  generalize hv : H3 x0 x1 x3 x5 x6 = v
  have hv' : val_main_v27 (F := Ideal) x0 x1 x3 x5 x6 = v := hv
  generalize hw : Dy x0 x1 x2 x3 x4 x5 x6 = w
  have hw' : val_main_v57 (F := Ideal) x0 x1 x2 x3 x4 x5 x6 = w := hw
  pointwise [k0_pay22, k0_pay21, val_main_v58, val_main_v40, val_main_v39, val_main_v35, val_main_v34, val_main_v33, val_main_v32, val_main_v31, val_main_v30, val_main_v29, val_main_v28, val_main_cst_6, val_main_cst_7, val_main_cst_8]
  simp only [hv', hw']
  exact Finset.sum_congr rfl fun x _ => mul_comm (G := EReal) _ _

/-- The rows' part of the gradient of the gate's norm's gain. -/
theorem gaing (y : S1x1024.Idx) :
    k0_pay30 (F := Ideal) (rows ρ x0) (rows ρ (Gt x0 x3 x5)) (rows ρ (Pp x1 x6)) (rows ρ (D3 x0 x1 x2 x3 x4 x5 x6)) x5 y
      = ∑ x : Fin 256, val_main_v81 (F := Ideal) x0 x1 x2 x3 x4 x5 x6 (ix2 (ρ x) (y 1)) := by
  obtain ⟨r, k, rfl⟩ : ∃ r k, y = ix2 r k := ⟨y 0, y 1, (ix2_eta y).symm⟩
  unfold k0_pay30
  rw [backn]
  generalize hw : Dn x0 x1 x2 x3 x4 x5 x6 = w
  have hw' : val_main_v80 (F := Ideal) x0 x1 x2 x3 x4 x5 x6 = w := hw
  pointwise [k0_pay29, k0_pay28, val_main_v81, val_main_v12, val_main_v11, val_main_v7, val_main_v6, val_main_v5, val_main_v4, val_main_v3, val_main_v2, val_main_v1, val_main_v0, val_main_cst, val_main_cst_0, val_main_cst_1]
  simp only [hw']
  exact Finset.sum_congr rfl fun x _ => mul_comm (G := EReal) _ _

/-- The rows' part of the loss. -/
theorem loss (h R tg : FVec Ideal S256x1024 .f32) (w : FVec Ideal S1x1024 .f32)
    (e : k0_pay18 (F := Ideal) h w R tg = rows ρ (Er x0 x1 x2 x3 x4 x5 x6)) :
    k0_pay19 (F := Ideal) h w R tg = (∑ x : Fin 256, ∑ k : Fin 1024, val_main_v44 (F := Ideal) x0 x1 x2 x3 x4 x5 x6 (ix2 (ρ x) k)) * ((1 / 2048 : ℝ) : EReal) := by
  unfold k0_pay19
  rw [e]
  generalize hv : Er x0 x1 x2 x3 x4 x5 x6 = v
  have hv' : val_main_v43 (F := Ideal) x0 x1 x2 x3 x4 x5 x6 = v := hv
  pointwise [val_main_v44]
  simp only [hv']
  rw [ofBits_inv, ofBits_half, mul_comm (((1 / 2 : ℝ) : EReal)), mul_assoc, ← EReal.coe_mul]
  norm_num
  rfl

end Cert.Tail
end
-- ==== Proof.TailHalf.lean ====
/- The gate and the loss: the two halves of a block of tokens in the reference's terms, as the body writes each of them. -/
module

public import proofs.«01_k».proof.Proof.TailPay

@[expose] public section

set_option maxRecDepth 16384

noncomputable section

namespace Cert.Tail

open Cert.Kernel7Ideal Cert.Kernel7Ideal.Gen Idealize.ShloMosaic Idealize.ShloMosaic.TcCoe Idealize.SL.Sem
open Cert.Reference7Ideal.Read

variable (x0 : FVec Ideal S4096x1024 .f32) (x1 : FVec Ideal S4096x256 .f32) (x2 : FVec Ideal S4096x1024 .f32)
  (x3 x4 : FVec Ideal S1x1024 .f32) (x5 : FVec Ideal S1024x1024 .f32) (x6 : FVec Ideal S256x1024 .f32) (ρ : Fin 256 → Fin 4096)

/-- The gate, in the second half's cut of the body. -/
theorem gate' : k0_pay38 (F := Ideal) (k0_pay36 (F := Ideal) (rows ρ x0) x3) (k0_pay37 (F := Ideal) x5) (constant S256x1024 .f32 0x00000000#32) = rows ρ (Gt x0 x3 x5) :=
  (show _ = k0_pay10 (F := Ideal) (rows ρ x0) x3 x5 from rfl).trans (gate x0 x3 x5 ρ)

/-- The loss's gradient at the output, from the body's own terms. -/
theorem seed0 : k0_pay20 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2)
    = rows ρ (Dy x0 x1 x2 x3 x4 x5 x6) := by
  rw [gated]
  exact seed x0 x1 x2 x3 x4 x5 x6 ρ _ _ _ _ (dist x0 x1 x2 x3 x4 x5 x6 ρ)

/-- The gradient of the gated residual stream. -/
theorem back30 : (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4)
    = rows ρ (D3 x0 x1 x2 x3 x4 x5 x6) := by
  rw [gated]
  exact back3 x0 x1 x2 x3 x4 x5 x6 ρ _ _ (seed0 x0 x1 x2 x3 x4 x5 x6 ρ)

/-- The gradient of the projected embeddings, first half. -/
theorem backp0 : k0_pay25 (F := Ideal) (rows ρ (Gt x0 x3 x5)) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4
    = rows ρ (val_main_v104 (F := Ideal) x0 x1 x2 x3 x4 x5 x6) := by
  rw [gated]
  exact backp x0 x1 x2 x3 x4 x5 x6 ρ _ _ (back30 x0 x1 x2 x3 x4 x5 x6 ρ)

/-- The gradient of the projected embeddings, second half. -/
theorem backp1 : k0_pay54 (F := Ideal) (rows ρ (Gt x0 x3 x5)) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4)
    = rows ρ (val_main_v104 (F := Ideal) x0 x1 x2 x3 x4 x5 x6) := by
  exact (show _ = k0_pay25 (F := Ideal) (rows ρ (Gt x0 x3 x5)) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4 from rfl).trans (backp0 x0 x1 x2 x3 x4 x5 x6 ρ)

/-- The gradient of the gate's logits, first half. -/
theorem backl0 : k0_pay26 (F := Ideal) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4)
    = rows ρ (Dl x0 x1 x2 x3 x4 x5 x6) := by
  rw [back30]
  exact backl x0 x1 x2 x3 x4 x5 x6 ρ

/-- The gradient of the gate's logits, second half. -/
theorem backl1 : k0_pay55 (F := Ideal) (rows ρ (Gt x0 x3 x5)) (rows ρ (Pp x1 x6)) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4)
    = rows ρ (Dl x0 x1 x2 x3 x4 x5 x6) := by
  exact (show _ = k0_pay26 (F := Ideal) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4) from rfl).trans (backl0 x0 x1 x2 x3 x4 x5 x6 ρ)

/-- The gradient of the input, first half. -/
theorem back0 : k0_pay31 (F := Ideal) (rows ρ x0) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4) x5 x3
    = rows ρ (val_main_v100 (F := Ideal) x0 x1 x2 x3 x4 x5 x6) := by
  rw [back30]
  exact back x0 x1 x2 x3 x4 x5 x6 ρ

/-- The gradient of the input, second half. -/
theorem back1 : k0_pay1 (F := Ideal) (k0_pay52 (F := Ideal) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4)) (k0_pay57 (F := Ideal) (rows ρ x0)) (k0_pay58 (F := Ideal) (rows ρ x0)) (k0_pay59 (F := Ideal) (rows ρ (Gt x0 x3 x5)) (rows ρ (Pp x1 x6)) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4) x5 x3) (k0_pay60 (F := Ideal) (rows ρ x0) (rows ρ (Gt x0 x3 x5)) (rows ρ (Pp x1 x6)) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4) x5 x3)
    = rows ρ (val_main_v100 (F := Ideal) x0 x1 x2 x3 x4 x5 x6) := by
  exact (show _ = k0_pay31 (F := Ideal) (rows ρ x0) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4) x5 x3 from rfl).trans (back0 x0 x1 x2 x3 x4 x5 x6 ρ)

/-- The final norm's gain, first half. -/
theorem gainf0 (y : S1x1024.Idx) : k0_pay24 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) y
    = ∑ x : Fin 256, val_main_v58 (F := Ideal) x0 x1 x2 x3 x4 x5 x6 (ix2 (ρ x) (y 1)) := by
  rw [gated]
  exact gainf x0 x1 x2 x3 x4 x5 x6 ρ _ _ (seed0 x0 x1 x2 x3 x4 x5 x6 ρ) y

/-- The final norm's gain, second half. -/
theorem gainf1 (y : S1x1024.Idx) : k0_pay53 (F := Ideal) (k0_pay48 (F := Ideal) (rows ρ x0) (rows ρ (Gt x0 x3 x5)) (rows ρ (Pp x1 x6)) x4 (rows ρ x2)) (k0_pay50 (F := Ideal) (rows ρ x0) (rows ρ (Gt x0 x3 x5)) (rows ρ (Pp x1 x6))) y
    = ∑ x : Fin 256, val_main_v58 (F := Ideal) x0 x1 x2 x3 x4 x5 x6 (ix2 (ρ x) (y 1)) := by
  exact (show _ = k0_pay24 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) y from rfl).trans (gainf0 x0 x1 x2 x3 x4 x5 x6 ρ y)

/-- The gate's norm's gain, first half. -/
theorem gaing0 (y : S1x1024.Idx) : k0_pay30 (F := Ideal) (rows ρ x0) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4) x5 y
    = ∑ x : Fin 256, val_main_v81 (F := Ideal) x0 x1 x2 x3 x4 x5 x6 (ix2 (ρ x) (y 1)) := by
  rw [back30]
  exact gaing x0 x1 x2 x3 x4 x5 x6 ρ y

/-- The gate's norm's gain, second half, added to what is there. -/
theorem gaing1 (O : FVec Ideal S1x1024 .f32) (y : S1x1024.Idx) : k0_pay3 (F := Ideal) (k0_pay56 (F := Ideal) (rows ρ (Gt x0 x3 x5)) (rows ρ (Pp x1 x6)) (k0_pay49 (F := Ideal) (rows ρ x0) (rows ρ (Gt x0 x3 x5)) (rows ρ (Pp x1 x6))) (k0_pay50 (F := Ideal) (rows ρ x0) (rows ρ (Gt x0 x3 x5)) (rows ρ (Pp x1 x6))) (k0_pay51 (F := Ideal) (rows ρ x0) (rows ρ (Gt x0 x3 x5)) (rows ρ (Pp x1 x6)) x4 (rows ρ x2) x4) x5) (k0_pay58 (F := Ideal) (rows ρ x0)) O y
    = O y + ∑ x : Fin 256, val_main_v81 (F := Ideal) x0 x1 x2 x3 x4 x5 x6 (ix2 (ρ x) (y 1)) := by
  refine (show _ = k0_pay33 (F := Ideal) (k0_pay30 (F := Ideal) (rows ρ x0) (rows ρ (Gt x0 x3 x5)) (rows ρ (Pp x1 x6)) (k0_pay23 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) x4) x5) O y from rfl).trans ?_
  unfold k0_pay33
  obtain ⟨r, k, rfl⟩ : ∃ r k, y = ix2 r k := ⟨y 0, y 1, (ix2_eta y).symm⟩
  rw [shapeCast_self]
  exact congrArg (fun z : EReal => O (ix2 r k) + z) (gaing0 x0 x1 x2 x3 x4 x5 x6 ρ _)

/-- The loss, first half. -/
theorem loss0 : k0_pay19 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2)
    = (∑ x : Fin 256, ∑ k : Fin 1024, val_main_v44 (F := Ideal) x0 x1 x2 x3 x4 x5 x6 (ix2 (ρ x) k)) * ((1 / 2048 : ℝ) : EReal) := by
  rw [gated]
  exact loss x0 x1 x2 x3 x4 x5 x6 ρ _ _ _ _ (dist x0 x1 x2 x3 x4 x5 x6 ρ)

/-- The loss, second half. -/
theorem loss1 : k0_pay47 (F := Ideal) (rows ρ x0) (rows ρ (Gt x0 x3 x5)) (rows ρ (Pp x1 x6)) x4 (rows ρ x2)
    = (∑ x : Fin 256, ∑ k : Fin 1024, val_main_v44 (F := Ideal) x0 x1 x2 x3 x4 x5 x6 (ix2 (ρ x) k)) * ((1 / 2048 : ℝ) : EReal) := by
  exact (show _ = k0_pay19 (F := Ideal) (k0_pay16 (F := Ideal) (rows ρ x0) (rows ρ (Gt x0 x3 x5)) (rows ρ (Pp x1 x6))) x4 (k0_pay17 (F := Ideal) (rows ρ x0) (rows ρ (Gt x0 x3 x5)) (rows ρ (Pp x1 x6))) (rows ρ x2) from rfl).trans (loss0 x0 x1 x2 x3 x4 x5 x6 ρ)

end Cert.Tail
end
-- ==== Proof.TailBlocks.lean ====
/- The gate and the loss: the blocks each grid point reads, and the projected embeddings it keeps in its scratch buffer. -/
module

public import proofs.«01_k».proof.Proof.TailHalf
public import proofs.«01_k».proof.Proof.Gen.Kernel7Ideal.Value
public import Idealize.ShloMosaic.Lib.Pipeline.Value
public import Idealize.ShloMosaic.Lib.Pipeline.ValueKit
public import Idealize.ShloMosaic.Lib.Pointwise

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

/-- Which block each window holds at grid point `t`. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![0, 0] ∧ win0_14.index t = ![0, 0] ∧ win0_15.index t = ![0, 0] :=
  (by decide +kernel : ∀ t : Fin grid0.N, _)

/-- Row `r` of grid point `t`'s tokens as a row of the whole array. -/
abbrev row (t : Fin cfg0.N) (r : Fin 512) : Fin 4096 :=
  ⟨t.val * 512 + r.val, by have := r.isLt; have := lt_of_lt_of_eq t.isLt N_0; omega⟩

/-- Row `r` of the first half of grid point `t`'s tokens. -/
abbrev r0 (t : Fin cfg0.N) (r : Fin 256) : Fin 4096 := row t ⟨r.val, by omega⟩
/-- Row `r` of the second half of grid point `t`'s tokens. -/
abbrev r1 (t : Fin cfg0.N) (r : Fin 256) : Fin 4096 := row t ⟨256 + r.val, by omega⟩

/-- The seven arguments on device `c`. -/
abbrev h2 (c : Dev nD) : FVec Ideal S4096x1024 .f32 := m ((c : Thread nD τ).loc main_arg0)
abbrev pe (c : Dev nD) : FVec Ideal S4096x256 .f32 := m ((c : Thread nD τ).loc main_arg1)
abbrev tg (c : Dev nD) : FVec Ideal S4096x1024 .f32 := m ((c : Thread nD τ).loc main_arg2)
abbrev gp (c : Dev nD) : FVec Ideal S1x1024 .f32 := m ((c : Thread nD τ).loc main_arg3)
abbrev gf (c : Dev nD) : FVec Ideal S1x1024 .f32 := m ((c : Thread nD τ).loc main_arg4)
abbrev wg (c : Dev nD) : FVec Ideal S1024x1024 .f32 := m ((c : Thread nD τ).loc main_arg5)
abbrev wp (c : Dev nD) : FVec Ideal S256x1024 .f32 := m ((c : Thread nD τ).loc main_arg6)

theorem blk0 (c : Dev nD) (t : Fin cfg0.N) (r : Fin 512) (k : Fin 1024) : iblk m c 0 t (ix2 r k) = h2 m c (ix2 (row t r) k) := by
  blk_point [iblk, V, idx t]
theorem blk1 (c : Dev nD) (t : Fin cfg0.N) (r : Fin 512) (k : Fin 256) : iblk m c 1 t (ix2 r k) = pe m c (ix2 (row t r) k) := by
  blk_point [iblk, V, idx t]
theorem blk2 (c : Dev nD) (t : Fin cfg0.N) (r : Fin 512) (k : Fin 1024) : iblk m c 2 t (ix2 r k) = tg m c (ix2 (row t r) k) := by
  blk_point [iblk, V, idx t]
theorem blk3 (c : Dev nD) (t : Fin cfg0.N) (r : Fin 1) (k : Fin 1024) : iblk m c 3 t (ix2 r k) = gp m c (ix2 r k) := by
  blk_point [iblk, V, idx t]
theorem blk4 (c : Dev nD) (t : Fin cfg0.N) (r : Fin 1) (k : Fin 1024) : iblk m c 4 t (ix2 r k) = gf m c (ix2 r k) := by
  blk_point [iblk, V, idx t]
theorem blk5 (c : Dev nD) (t : Fin cfg0.N) (r k : Fin 1024) : iblk m c 5 t (ix2 r k) = wg m c (ix2 r k) := by
  blk_point [iblk, V, idx t]
/-- Shard `j` of the embedding projection holds its columns `256 j …`. -/
theorem blk6 (c : Dev nD) (t : Fin cfg0.N) (j : Fin 4) (r q : Fin 256) : iblk m c 6 t (ix3 j r q) = wp m c (ix2 r ⟨j.val * 256 + q.val, by omega⟩) := by
  blk_point [iblk, V, idx t]

/-- The whole blocks. -/
theorem whole3 (c : Dev nD) (t : Fin cfg0.N) : (iblk m c 3 t : FVec Ideal S1x1024 .f32) = gp m c :=
  funext fun i => (congrArg (iblk m c 3 t : FVec Ideal S1x1024 .f32) (ix2_eta i).symm).trans ((blk3 m c t (i 0) (i 1)).trans (congrArg (gp m c) (ix2_eta i)))
theorem whole4 (c : Dev nD) (t : Fin cfg0.N) : (iblk m c 4 t : FVec Ideal S1x1024 .f32) = gf m c :=
  funext fun i => (congrArg (iblk m c 4 t : FVec Ideal S1x1024 .f32) (ix2_eta i).symm).trans ((blk4 m c t (i 0) (i 1)).trans (congrArg (gf m c) (ix2_eta i)))
theorem whole5 (c : Dev nD) (t : Fin cfg0.N) : (iblk m c 5 t : FVec Ideal S1024x1024 .bf16) = wg m c :=
  funext fun i => (congrArg (iblk m c 5 t : FVec Ideal S1024x1024 .bf16) (ix2_eta i).symm).trans ((blk5 m c t (i 0) (i 1)).trans (congrArg (wg m c) (ix2_eta i)))

theorem ext2 {a b : ℕ} (i j : (⟨2, ![a, b]⟩ : Shape).Idx) (h0 : (i 0).val = (j 0).val) (h1 : (i 1).val = (j 1).val) : i = j := by
  funext d
  fin_cases d
  · exact Fin.ext h0
  · exact Fin.ext h1
theorem ext3 {a b c : ℕ} (i j : (⟨3, ![a, b, c]⟩ : Shape).Idx) (h0 : (i 0).val = (j 0).val) (h1 : (i 1).val = (j 1).val) (h2 : (i 2).val = (j 2).val) : i = j := by
  funext d
  fin_cases d
  · exact Fin.ext h0
  · exact Fin.ext h1
  · exact Fin.ext h2

/-- The halves of the blocks of tokens. -/
theorem half00 (c : Dev nD) (t : Fin cfg0.N) : (View.ld (Val := Elt Ideal) (S := S512x1024) (e' := .f32) (iblk m c 0 t) (Rect.unit (s := S512x1024) ![0, 0] ![256, 1024] inb_S512x1024_S256x1024_0_0) : FVec Ideal S256x1024 .f32) = rows (r0 t) (h2 m c) := by
  funext i
  refine (congrArg (iblk m c 0 t : FVec Ideal S512x1024 .f32) (ext2 _ (ix2 (⟨(i 0).val, by have := (i 0).isLt; simp at this; omega⟩ : Fin 512) (i 1)) ?_ ?_)).trans (blk0 m c t _ _)
  all_goals (simp [Rect.unit, Rect.emb]; try omega)
theorem half01 (c : Dev nD) (t : Fin cfg0.N) : (View.ld (Val := Elt Ideal) (S := S512x1024) (e' := .f32) (iblk m c 0 t) (Rect.unit (s := S512x1024) ![256, 0] ![256, 1024] inb_S512x1024_S256x1024_256_0) : FVec Ideal S256x1024 .f32) = rows (r1 t) (h2 m c) := by
  funext i
  refine (congrArg (iblk m c 0 t : FVec Ideal S512x1024 .f32) (ext2 _ (ix2 (⟨256 + (i 0).val, by have := (i 0).isLt; simp at this; omega⟩ : Fin 512) (i 1)) ?_ ?_)).trans (blk0 m c t _ _)
  all_goals (simp [Rect.unit, Rect.emb]; try omega)
theorem half20 (c : Dev nD) (t : Fin cfg0.N) : (View.ld (Val := Elt Ideal) (S := S512x1024) (e' := .f32) (iblk m c 2 t) (Rect.unit (s := S512x1024) ![0, 0] ![256, 1024] inb_S512x1024_S256x1024_0_0) : FVec Ideal S256x1024 .f32) = rows (r0 t) (tg m c) := by
  funext i
  refine (congrArg (iblk m c 2 t : FVec Ideal S512x1024 .f32) (ext2 _ (ix2 (⟨(i 0).val, by have := (i 0).isLt; simp at this; omega⟩ : Fin 512) (i 1)) ?_ ?_)).trans (blk2 m c t _ _)
  all_goals (simp [Rect.unit, Rect.emb]; try omega)
theorem half21 (c : Dev nD) (t : Fin cfg0.N) : (View.ld (Val := Elt Ideal) (S := S512x1024) (e' := .f32) (iblk m c 2 t) (Rect.unit (s := S512x1024) ![256, 0] ![256, 1024] inb_S512x1024_S256x1024_256_0) : FVec Ideal S256x1024 .f32) = rows (r1 t) (tg m c) := by
  funext i
  refine (congrArg (iblk m c 2 t : FVec Ideal S512x1024 .f32) (ext2 _ (ix2 (⟨256 + (i 0).val, by have := (i 0).isLt; simp at this; omega⟩ : Fin 512) (i 1)) ?_ ?_)).trans (blk2 m c t _ _)
  all_goals (simp [Rect.unit, Rect.emb]; try omega)
theorem half10 (c : Dev nD) (t : Fin cfg0.N) : (View.ld (Val := Elt Ideal) (S := S512x256) (e' := .f32) (iblk m c 1 t) (Rect.unit (s := S512x256) ![0, 0] ![256, 256] inb_S512x256_S256x256_0_0) : FVec Ideal S256x256 .f32) = fun i => pe m c (ix2 (r0 t (i 0)) (i 1)) := by
  funext i
  refine (congrArg (iblk m c 1 t : FVec Ideal S512x256 .f32) (ext2 _ (ix2 (⟨(i 0).val, by have := (i 0).isLt; simp at this; omega⟩ : Fin 512) (i 1)) ?_ ?_)).trans (blk1 m c t _ _)
  all_goals (simp [Rect.unit, Rect.emb]; try omega)
theorem half11 (c : Dev nD) (t : Fin cfg0.N) : (View.ld (Val := Elt Ideal) (S := S512x256) (e' := .f32) (iblk m c 1 t) (Rect.unit (s := S512x256) ![256, 0] ![256, 256] inb_S512x256_S256x256_256_0) : FVec Ideal S256x256 .f32) = fun i => pe m c (ix2 (r1 t (i 0)) (i 1)) := by
  funext i
  refine (congrArg (iblk m c 1 t : FVec Ideal S512x256 .f32) (ext2 _ (ix2 (⟨256 + (i 0).val, by have := (i 0).isLt; simp at this; omega⟩ : Fin 512) (i 1)) ?_ ?_)).trans (blk1 m c t _ _)
  all_goals (simp [Rect.unit, Rect.emb]; try omega)

/-- The projected embeddings on device `c`. -/
abbrev pp (c : Dev nD) : FVec Ideal S4096x1024 .f32 := Pp (pe m c) (wp m c)

/-- Shard 0 of the embedding projection. -/
theorem shard0 (c : Dev nD) (t : Fin cfg0.N) : (View.ld (Val := Elt Ideal) (S := S4x256x256) (e' := .bf16) (iblk m c 6 t) (Rect.unit (s := S4x256x256) ![0, 0, 0] ![1, 256, 256] inb_S4x256x256_S1x256x256_0_0_0) : FVec Ideal S1x256x256 .bf16) = fun i => wp m c (ix2 (i 1) ⟨0 + (i 2).val, by have := (i 2).isLt; simp at this; omega⟩) := by
  funext i
  refine (congrArg (iblk m c 6 t : FVec Ideal S4x256x256 .bf16) (ext3 _ (ix3 (0 : Fin 4) (i 1) (i 2)) ?_ ?_ ?_)).trans (blk6 m c t _ _ _)
  all_goals (have := (i 0).isLt; simp at this; simp [Rect.unit, Rect.emb]; try omega)

/-- Shard 1 of the embedding projection. -/
theorem shard1 (c : Dev nD) (t : Fin cfg0.N) : (View.ld (Val := Elt Ideal) (S := S4x256x256) (e' := .bf16) (iblk m c 6 t) (Rect.unit (s := S4x256x256) ![1, 0, 0] ![1, 256, 256] inb_S4x256x256_S1x256x256_1_0_0) : FVec Ideal S1x256x256 .bf16) = fun i => wp m c (ix2 (i 1) ⟨256 + (i 2).val, by have := (i 2).isLt; simp at this; omega⟩) := by
  funext i
  refine (congrArg (iblk m c 6 t : FVec Ideal S4x256x256 .bf16) (ext3 _ (ix3 (1 : Fin 4) (i 1) (i 2)) ?_ ?_ ?_)).trans (blk6 m c t _ _ _)
  all_goals (have := (i 0).isLt; simp at this; simp [Rect.unit, Rect.emb]; try omega)

/-- Shard 2 of the embedding projection. -/
theorem shard2 (c : Dev nD) (t : Fin cfg0.N) : (View.ld (Val := Elt Ideal) (S := S4x256x256) (e' := .bf16) (iblk m c 6 t) (Rect.unit (s := S4x256x256) ![2, 0, 0] ![1, 256, 256] inb_S4x256x256_S1x256x256_2_0_0) : FVec Ideal S1x256x256 .bf16) = fun i => wp m c (ix2 (i 1) ⟨512 + (i 2).val, by have := (i 2).isLt; simp at this; omega⟩) := by
  funext i
  refine (congrArg (iblk m c 6 t : FVec Ideal S4x256x256 .bf16) (ext3 _ (ix3 (2 : Fin 4) (i 1) (i 2)) ?_ ?_ ?_)).trans (blk6 m c t _ _ _)
  all_goals (have := (i 0).isLt; simp at this; simp [Rect.unit, Rect.emb]; try omega)

/-- Shard 3 of the embedding projection. -/
theorem shard3 (c : Dev nD) (t : Fin cfg0.N) : (View.ld (Val := Elt Ideal) (S := S4x256x256) (e' := .bf16) (iblk m c 6 t) (Rect.unit (s := S4x256x256) ![3, 0, 0] ![1, 256, 256] inb_S4x256x256_S1x256x256_3_0_0) : FVec Ideal S1x256x256 .bf16) = fun i => wp m c (ix2 (i 1) ⟨768 + (i 2).val, by have := (i 2).isLt; simp at this; omega⟩) := by
  funext i
  refine (congrArg (iblk m c 6 t : FVec Ideal S4x256x256 .bf16) (ext3 _ (ix3 (3 : Fin 4) (i 1) (i 2)) ?_ ?_ ?_)).trans (blk6 m c t _ _ _)
  all_goals (have := (i 0).isLt; simp at this; simp [Rect.unit, Rect.emb]; try omega)

/-- Columns 0 … of the projected embeddings, first half. -/
theorem proj00 (x1 : FVec Ideal S4096x256 .f32) (x6 : FVec Ideal S256x1024 .f32) (ρ : Fin 256 → Fin 4096) :
    k0_pay12 (F := Ideal) (fun i => x1 (ix2 (ρ (i 0)) (i 1)) : FVec Ideal S256x256 .f32) (fun i => x6 (ix2 (i 1) ⟨0 + (i 2).val, by have := (i 2).isLt; simp at this; omega⟩) : FVec Ideal S1x256x256 .bf16)
      = fun i => Pp x1 x6 (ix2 (ρ (i 0)) ⟨0 + (i 1).val, by have := (i 1).isLt; simp at this; omega⟩) := by
  funext i
  obtain ⟨r, k, rfl⟩ : ∃ r k, i = ix2 r k := ⟨i 0, i 1, (ix2_eta i).symm⟩
  pointwise [k0_pay12, k0_pay11, Pp, val_main_v16, val_main_v15]

/-- Columns 0 … of the projected embeddings, second half. -/
theorem proj10 (x1 : FVec Ideal S4096x256 .f32) (x6 : FVec Ideal S256x1024 .f32) (ρ : Fin 256 → Fin 4096) :
    k0_pay40 (F := Ideal) (fun i => x1 (ix2 (ρ (i 0)) (i 1)) : FVec Ideal S256x256 .f32) (fun i => x6 (ix2 (i 1) ⟨0 + (i 2).val, by have := (i 2).isLt; simp at this; omega⟩) : FVec Ideal S1x256x256 .bf16)
      = fun i => Pp x1 x6 (ix2 (ρ (i 0)) ⟨0 + (i 1).val, by have := (i 1).isLt; simp at this; omega⟩) := by
  funext i
  obtain ⟨r, k, rfl⟩ : ∃ r k, i = ix2 r k := ⟨i 0, i 1, (ix2_eta i).symm⟩
  pointwise [k0_pay40, k0_pay39, Pp, val_main_v16, val_main_v15]

/-- Columns 256 … of the projected embeddings, first half. -/
theorem proj01 (x1 : FVec Ideal S4096x256 .f32) (x6 : FVec Ideal S256x1024 .f32) (ρ : Fin 256 → Fin 4096) :
    k0_pay13 (F := Ideal) (k0_pay11 (F := Ideal) (fun i => x1 (ix2 (ρ (i 0)) (i 1)) : FVec Ideal S256x256 .f32)) (fun i => x6 (ix2 (i 1) ⟨256 + (i 2).val, by have := (i 2).isLt; simp at this; omega⟩) : FVec Ideal S1x256x256 .bf16)
      = fun i => Pp x1 x6 (ix2 (ρ (i 0)) ⟨256 + (i 1).val, by have := (i 1).isLt; simp at this; omega⟩) := by
  funext i
  obtain ⟨r, k, rfl⟩ : ∃ r k, i = ix2 r k := ⟨i 0, i 1, (ix2_eta i).symm⟩
  pointwise [k0_pay13, k0_pay11, Pp, val_main_v16, val_main_v15]

/-- Columns 256 … of the projected embeddings, second half. -/
theorem proj11 (x1 : FVec Ideal S4096x256 .f32) (x6 : FVec Ideal S256x1024 .f32) (ρ : Fin 256 → Fin 4096) :
    k0_pay41 (F := Ideal) (fun i => x1 (ix2 (ρ (i 0)) (i 1)) : FVec Ideal S256x256 .f32) (fun i => x6 (ix2 (i 1) ⟨256 + (i 2).val, by have := (i 2).isLt; simp at this; omega⟩) : FVec Ideal S1x256x256 .bf16)
      = fun i => Pp x1 x6 (ix2 (ρ (i 0)) ⟨256 + (i 1).val, by have := (i 1).isLt; simp at this; omega⟩) := by
  funext i
  obtain ⟨r, k, rfl⟩ : ∃ r k, i = ix2 r k := ⟨i 0, i 1, (ix2_eta i).symm⟩
  pointwise [k0_pay41, k0_pay39, Pp, val_main_v16, val_main_v15]

/-- Columns 512 … of the projected embeddings, first half. -/
theorem proj02 (x1 : FVec Ideal S4096x256 .f32) (x6 : FVec Ideal S256x1024 .f32) (ρ : Fin 256 → Fin 4096) :
    k0_pay14 (F := Ideal) (k0_pay11 (F := Ideal) (fun i => x1 (ix2 (ρ (i 0)) (i 1)) : FVec Ideal S256x256 .f32)) (fun i => x6 (ix2 (i 1) ⟨512 + (i 2).val, by have := (i 2).isLt; simp at this; omega⟩) : FVec Ideal S1x256x256 .bf16)
      = fun i => Pp x1 x6 (ix2 (ρ (i 0)) ⟨512 + (i 1).val, by have := (i 1).isLt; simp at this; omega⟩) := by
  funext i
  obtain ⟨r, k, rfl⟩ : ∃ r k, i = ix2 r k := ⟨i 0, i 1, (ix2_eta i).symm⟩
  pointwise [k0_pay14, k0_pay11, Pp, val_main_v16, val_main_v15]

/-- Columns 512 … of the projected embeddings, second half. -/
theorem proj12 (x1 : FVec Ideal S4096x256 .f32) (x6 : FVec Ideal S256x1024 .f32) (ρ : Fin 256 → Fin 4096) :
    k0_pay42 (F := Ideal) (fun i => x1 (ix2 (ρ (i 0)) (i 1)) : FVec Ideal S256x256 .f32) (fun i => x6 (ix2 (i 1) ⟨512 + (i 2).val, by have := (i 2).isLt; simp at this; omega⟩) : FVec Ideal S1x256x256 .bf16)
      = fun i => Pp x1 x6 (ix2 (ρ (i 0)) ⟨512 + (i 1).val, by have := (i 1).isLt; simp at this; omega⟩) := by
  funext i
  obtain ⟨r, k, rfl⟩ : ∃ r k, i = ix2 r k := ⟨i 0, i 1, (ix2_eta i).symm⟩
  pointwise [k0_pay42, k0_pay39, Pp, val_main_v16, val_main_v15]

/-- Columns 768 … of the projected embeddings, first half. -/
theorem proj03 (x1 : FVec Ideal S4096x256 .f32) (x6 : FVec Ideal S256x1024 .f32) (ρ : Fin 256 → Fin 4096) :
    k0_pay15 (F := Ideal) (k0_pay11 (F := Ideal) (fun i => x1 (ix2 (ρ (i 0)) (i 1)) : FVec Ideal S256x256 .f32)) (fun i => x6 (ix2 (i 1) ⟨768 + (i 2).val, by have := (i 2).isLt; simp at this; omega⟩) : FVec Ideal S1x256x256 .bf16)
      = fun i => Pp x1 x6 (ix2 (ρ (i 0)) ⟨768 + (i 1).val, by have := (i 1).isLt; simp at this; omega⟩) := by
  funext i
  obtain ⟨r, k, rfl⟩ : ∃ r k, i = ix2 r k := ⟨i 0, i 1, (ix2_eta i).symm⟩
  pointwise [k0_pay15, k0_pay11, Pp, val_main_v16, val_main_v15]

/-- Columns 768 … of the projected embeddings, second half. -/
theorem proj13 (x1 : FVec Ideal S4096x256 .f32) (x6 : FVec Ideal S256x1024 .f32) (ρ : Fin 256 → Fin 4096) :
    k0_pay44 (F := Ideal) (k0_pay43 (F := Ideal) (fun i => x1 (ix2 (ρ (i 0)) (i 1)) : FVec Ideal S256x256 .f32) (fun i => x6 (ix2 (i 1) ⟨768 + (i 2).val, by have := (i 2).isLt; simp at this; omega⟩) : FVec Ideal S1x256x256 .bf16))
      = fun i => Pp x1 x6 (ix2 (ρ (i 0)) ⟨768 + (i 1).val, by have := (i 1).isLt; simp at this; omega⟩) := by
  funext i
  obtain ⟨r, k, rfl⟩ : ∃ r k, i = ix2 r k := ⟨i 0, i 1, (ix2_eta i).symm⟩
  pointwise [k0_pay43, k0_pay39, k0_pay44, Pp, val_main_v16, val_main_v15]

end Cert.Tail
end
-- ==== Proof.TailScratch.lean ====
/- The gate and the loss: what a grid point reads back from its scratch buffer, and how the two halves make up a block of a result. -/
module

public import proofs.«01_k».proof.Proof.TailBlocks

@[expose] public section

set_option maxRecDepth 16384

noncomputable section

namespace Cert.Tail

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- At an index the last store covers, the buffer holds what was stored. -/
theorem hit {s : Shape} {e : EltTy} (r : Rect s) (u : r.shape.Idx → Elt Ideal e) (L : List (View.Piece (Elt Ideal) s e)) (y : s.Idx) (x : r.shape.Idx)
    (h : y = r.emb x) : View.canon (⟨r, u⟩ :: L) y = u x := h ▸ View.canon_cons_emb r u L x

/-- At an index the last store starts after, the buffer holds what it held before. -/
theorem miss {s : Shape} {e : EltTy} (off size : Fin s.rank → ℕ) (inb : ∀ a, off a + size a ≤ s.size a) (u : (Rect.unit off size inb).shape.Idx → Elt Ideal e)
    (L : List (View.Piece (Elt Ideal) s e)) (y : s.Idx) (a : Fin s.rank) (h : ¬ off a ≤ (y a : ℕ)) :
    View.canon (⟨Rect.unit off size inb, u⟩ :: L) y = View.canon L y :=
  View.canon_cons_of_not_mem _ _ fun hm => h ((Rect.mem_set_unit (inb := inb)).mp hm a).1

/-- Two halves of 256 rows make up a block of 512. -/
theorem halves {e : EltTy} {n : ℕ} (t : Fin cfg0.N) (X : (⟨2, ![4096, n]⟩ : Shape).Idx → Elt Ideal e)
    (u1 u0 : (⟨2, ![256, n]⟩ : Shape).Idx → Elt Ideal e)
    (inb1 : ∀ a, (![256, 0] : Fin 2 → ℕ) a + (![256, n] : Fin 2 → ℕ) a ≤ (⟨2, ![512, n]⟩ : Shape).size a)
    (inb0 : ∀ a, (![0, 0] : Fin 2 → ℕ) a + (![256, n] : Fin 2 → ℕ) a ≤ (⟨2, ![512, n]⟩ : Shape).size a)
    (e1 : u1 = fun i => X (ix2 (r1 t (i 0)) (i 1))) (e0 : u0 = fun i => X (ix2 (r0 t (i 0)) (i 1))) :
    View.canon ([⟨Rect.unit (s := ⟨2, ![512, n]⟩) ![256, 0] ![256, n] inb1, u1⟩, ⟨Rect.unit (s := ⟨2, ![512, n]⟩) ![0, 0] ![256, n] inb0, u0⟩] : List (View.Piece (Elt Ideal) ⟨2, ![512, n]⟩ e))
      = fun y => X (ix2 (row t (y 0)) (y 1)) := by
  subst e1 e0
  funext y
  have h0 : (y 0 : ℕ) < 512 := (y 0).isLt
  have k0 : (y 1 : ℕ) < n := (y 1).isLt
  by_cases h : 256 ≤ (y 0 : ℕ)
  · have hx : y = (Rect.unit (s := ⟨2, ![512, n]⟩) ![256, 0] ![256, n] inb1).emb (ix2 (⟨(y 0).val - 256, by omega⟩ : Fin 256) (⟨(y 1).val, k0⟩ : Fin n)) :=
      ext2 y _ (show (y 0).val = 256 + 1 * ((y 0).val - 256) by omega) (show (y 1).val = 0 + 1 * (y 1).val by omega)
    refine (hit _ _ _ y _ hx).trans ?_
    exact congrArg X (congrArg₂ ix2 (Fin.ext (show t.val * 512 + (256 + ((y 0).val - 256)) = t.val * 512 + (y 0).val by omega)) rfl)
  · refine (miss (s := ⟨2, ![512, n]⟩) ![256, 0] ![256, n] inb1 _ _ y 0 h).trans ?_
    have hx : y = (Rect.unit (s := ⟨2, ![512, n]⟩) ![0, 0] ![256, n] inb0).emb (ix2 (⟨(y 0).val, by omega⟩ : Fin 256) (⟨(y 1).val, k0⟩ : Fin n)) :=
      ext2 y _ (show (y 0).val = 0 + 1 * (y 0).val by omega) (show (y 1).val = 0 + 1 * (y 1).val by omega)
    exact hit _ _ _ y _ hx

/-- Four column blocks of 256 rows, stored last at row 256, read back together. -/
theorem quarters256 (X : FVec Ideal S4096x1024 .f32) (ρ : Fin 256 → Fin 4096) (L : List (View.Piece (Elt Ideal) S512x1024 .f32))
    (u3 u2 u1 u0 : FVec Ideal S256x256 .f32)
    (e3 : u3 = fun i => X (ix2 (ρ (i 0)) ⟨768 + (i 1).val, by have := (i 1).isLt; simp at this; omega⟩))
    (e2 : u2 = fun i => X (ix2 (ρ (i 0)) ⟨512 + (i 1).val, by have := (i 1).isLt; simp at this; omega⟩))
    (e1 : u1 = fun i => X (ix2 (ρ (i 0)) ⟨256 + (i 1).val, by have := (i 1).isLt; simp at this; omega⟩))
    (e0 : u0 = fun i => X (ix2 (ρ (i 0)) ⟨0 + (i 1).val, by have := (i 1).isLt; simp at this; omega⟩))
    (j : S256x1024.Idx) (y : S512x1024.Idx)
    (h0 : (y 0 : ℕ) = 256 + (j 0 : ℕ)) (h1 : (y 1 : ℕ) = (j 1 : ℕ)) :
    View.canon (⟨(Rect.unit (s := S512x1024) ![256, 768] ![256, 256] inb_S512x1024_S256x256_256_768), u3⟩ :: ⟨(Rect.unit (s := S512x1024) ![256, 512] ![256, 256] inb_S512x1024_S256x256_256_512), u2⟩ :: ⟨(Rect.unit (s := S512x1024) ![256, 256] ![256, 256] inb_S512x1024_S256x256_256_256), u1⟩ :: ⟨(Rect.unit (s := S512x1024) ![256, 0] ![256, 256] inb_S512x1024_S256x256_256_0), u0⟩ :: L) y = X (ix2 (ρ (j 0)) (j 1)) := by
  subst e3 e2 e1 e0
  have j0 : (j 0 : ℕ) < 256 := (j 0).isLt
  have j1 : (j 1 : ℕ) < 1024 := (j 1).isLt
  by_cases c3 : 768 ≤ (y 1 : ℕ)
  · have hx : y = (Rect.unit (s := S512x1024) ![256, 768] ![256, 256] inb_S512x1024_S256x256_256_768).emb (ix2 (⟨(j 0).val, j0⟩ : Fin 256) (⟨(j 1).val - 768, by omega⟩ : Fin 256)) :=
      ext2 y _ (show (y 0).val = 256 + 1 * (j 0).val by omega) (show (y 1).val = 768 + 1 * ((j 1).val - 768) by omega)
    refine (hit _ _ _ y _ hx).trans ?_
    exact congrArg X (congrArg₂ ix2 rfl (Fin.ext (show 768 + ((j 1).val - 768) = (j 1).val by omega)))
  refine (miss (s := S512x1024) ![256, 768] ![256, 256] inb_S512x1024_S256x256_256_768 _ _ y 1 c3).trans ?_
  by_cases c2 : 512 ≤ (y 1 : ℕ)
  · have hx : y = (Rect.unit (s := S512x1024) ![256, 512] ![256, 256] inb_S512x1024_S256x256_256_512).emb (ix2 (⟨(j 0).val, j0⟩ : Fin 256) (⟨(j 1).val - 512, by omega⟩ : Fin 256)) :=
      ext2 y _ (show (y 0).val = 256 + 1 * (j 0).val by omega) (show (y 1).val = 512 + 1 * ((j 1).val - 512) by omega)
    refine (hit _ _ _ y _ hx).trans ?_
    exact congrArg X (congrArg₂ ix2 rfl (Fin.ext (show 512 + ((j 1).val - 512) = (j 1).val by omega)))
  refine (miss (s := S512x1024) ![256, 512] ![256, 256] inb_S512x1024_S256x256_256_512 _ _ y 1 c2).trans ?_
  by_cases c1 : 256 ≤ (y 1 : ℕ)
  · have hx : y = (Rect.unit (s := S512x1024) ![256, 256] ![256, 256] inb_S512x1024_S256x256_256_256).emb (ix2 (⟨(j 0).val, j0⟩ : Fin 256) (⟨(j 1).val - 256, by omega⟩ : Fin 256)) :=
      ext2 y _ (show (y 0).val = 256 + 1 * (j 0).val by omega) (show (y 1).val = 256 + 1 * ((j 1).val - 256) by omega)
    refine (hit _ _ _ y _ hx).trans ?_
    exact congrArg X (congrArg₂ ix2 rfl (Fin.ext (show 256 + ((j 1).val - 256) = (j 1).val by omega)))
  refine (miss (s := S512x1024) ![256, 256] ![256, 256] inb_S512x1024_S256x256_256_256 _ _ y 1 c1).trans ?_
  have hx : y = (Rect.unit (s := S512x1024) ![256, 0] ![256, 256] inb_S512x1024_S256x256_256_0).emb (ix2 (⟨(j 0).val, j0⟩ : Fin 256) (⟨(j 1).val - 0, by omega⟩ : Fin 256)) :=
    ext2 y _ (show (y 0).val = 256 + 1 * (j 0).val by omega) (show (y 1).val = 0 + 1 * ((j 1).val - 0) by omega)
  refine (hit _ _ _ y _ hx).trans ?_
  exact congrArg X (congrArg₂ ix2 rfl (Fin.ext (show 0 + ((j 1).val - 0) = (j 1).val by omega)))

/-- Four column blocks of 256 rows, stored last at row 0, read back together. -/
theorem quarters0 (X : FVec Ideal S4096x1024 .f32) (ρ : Fin 256 → Fin 4096) (L : List (View.Piece (Elt Ideal) S512x1024 .f32))
    (u3 u2 u1 u0 : FVec Ideal S256x256 .f32)
    (e3 : u3 = fun i => X (ix2 (ρ (i 0)) ⟨768 + (i 1).val, by have := (i 1).isLt; simp at this; omega⟩))
    (e2 : u2 = fun i => X (ix2 (ρ (i 0)) ⟨512 + (i 1).val, by have := (i 1).isLt; simp at this; omega⟩))
    (e1 : u1 = fun i => X (ix2 (ρ (i 0)) ⟨256 + (i 1).val, by have := (i 1).isLt; simp at this; omega⟩))
    (e0 : u0 = fun i => X (ix2 (ρ (i 0)) ⟨0 + (i 1).val, by have := (i 1).isLt; simp at this; omega⟩))
    (j : S256x1024.Idx) (y : S512x1024.Idx)
    (h0 : (y 0 : ℕ) = 0 + (j 0 : ℕ)) (h1 : (y 1 : ℕ) = (j 1 : ℕ)) :
    View.canon (⟨(Rect.unit (s := S512x1024) ![0, 768] ![256, 256] inb_S512x1024_S256x256_0_768), u3⟩ :: ⟨(Rect.unit (s := S512x1024) ![0, 512] ![256, 256] inb_S512x1024_S256x256_0_512), u2⟩ :: ⟨(Rect.unit (s := S512x1024) ![0, 256] ![256, 256] inb_S512x1024_S256x256_0_256), u1⟩ :: ⟨(Rect.unit (s := S512x1024) ![0, 0] ![256, 256] inb_S512x1024_S256x256_0_0), u0⟩ :: L) y = X (ix2 (ρ (j 0)) (j 1)) := by
  subst e3 e2 e1 e0
  have j0 : (j 0 : ℕ) < 256 := (j 0).isLt
  have j1 : (j 1 : ℕ) < 1024 := (j 1).isLt
  by_cases c3 : 768 ≤ (y 1 : ℕ)
  · have hx : y = (Rect.unit (s := S512x1024) ![0, 768] ![256, 256] inb_S512x1024_S256x256_0_768).emb (ix2 (⟨(j 0).val, j0⟩ : Fin 256) (⟨(j 1).val - 768, by omega⟩ : Fin 256)) :=
      ext2 y _ (show (y 0).val = 0 + 1 * (j 0).val by omega) (show (y 1).val = 768 + 1 * ((j 1).val - 768) by omega)
    refine (hit _ _ _ y _ hx).trans ?_
    exact congrArg X (congrArg₂ ix2 rfl (Fin.ext (show 768 + ((j 1).val - 768) = (j 1).val by omega)))
  refine (miss (s := S512x1024) ![0, 768] ![256, 256] inb_S512x1024_S256x256_0_768 _ _ y 1 c3).trans ?_
  by_cases c2 : 512 ≤ (y 1 : ℕ)
  · have hx : y = (Rect.unit (s := S512x1024) ![0, 512] ![256, 256] inb_S512x1024_S256x256_0_512).emb (ix2 (⟨(j 0).val, j0⟩ : Fin 256) (⟨(j 1).val - 512, by omega⟩ : Fin 256)) :=
      ext2 y _ (show (y 0).val = 0 + 1 * (j 0).val by omega) (show (y 1).val = 512 + 1 * ((j 1).val - 512) by omega)
    refine (hit _ _ _ y _ hx).trans ?_
    exact congrArg X (congrArg₂ ix2 rfl (Fin.ext (show 512 + ((j 1).val - 512) = (j 1).val by omega)))
  refine (miss (s := S512x1024) ![0, 512] ![256, 256] inb_S512x1024_S256x256_0_512 _ _ y 1 c2).trans ?_
  by_cases c1 : 256 ≤ (y 1 : ℕ)
  · have hx : y = (Rect.unit (s := S512x1024) ![0, 256] ![256, 256] inb_S512x1024_S256x256_0_256).emb (ix2 (⟨(j 0).val, j0⟩ : Fin 256) (⟨(j 1).val - 256, by omega⟩ : Fin 256)) :=
      ext2 y _ (show (y 0).val = 0 + 1 * (j 0).val by omega) (show (y 1).val = 256 + 1 * ((j 1).val - 256) by omega)
    refine (hit _ _ _ y _ hx).trans ?_
    exact congrArg X (congrArg₂ ix2 rfl (Fin.ext (show 256 + ((j 1).val - 256) = (j 1).val by omega)))
  refine (miss (s := S512x1024) ![0, 256] ![256, 256] inb_S512x1024_S256x256_0_256 _ _ y 1 c1).trans ?_
  have hx : y = (Rect.unit (s := S512x1024) ![0, 0] ![256, 256] inb_S512x1024_S256x256_0_0).emb (ix2 (⟨(j 0).val, j0⟩ : Fin 256) (⟨(j 1).val - 0, by omega⟩ : Fin 256)) :=
    ext2 y _ (show (y 0).val = 0 + 1 * (j 0).val by omega) (show (y 1).val = 0 + 1 * ((j 1).val - 0) by omega)
  refine (hit _ _ _ y _ hx).trans ?_
  exact congrArg X (congrArg₂ ix2 rfl (Fin.ext (show 0 + ((j 1).val - 0) = (j 1).val by omega)))

/-- The projected embeddings of the first half, as the body reads them back. -/
theorem kept0 (c : Dev nD) (t : Fin cfg0.N) :
    ((View.whole cc0_scratch0).readCov (Val := Elt Ideal) [⟨(Rect.unit (s := S512x1024) ![0, 768] ![256, 256] inb_S512x1024_S256x256_0_768), k0_pay15 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![3, 0, 0] ![1, 256, 256] inb_S4x256x256_S1x256x256_3_0_0))⟩,
        ⟨(Rect.unit (s := S512x1024) ![0, 512] ![256, 256] inb_S512x1024_S256x256_0_512), k0_pay14 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![2, 0, 0] ![1, 256, 256] inb_S4x256x256_S1x256x256_2_0_0))⟩,
        ⟨(Rect.unit (s := S512x1024) ![0, 256] ![256, 256] inb_S512x1024_S256x256_0_256), k0_pay13 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![1, 0, 0] ![1, 256, 256] inb_S4x256x256_S1x256x256_1_0_0))⟩,
        ⟨(Rect.unit (s := S512x1024) ![0, 0] ![256, 256] inb_S512x1024_S256x256_0_0), k0_pay12 (F := Ideal) (View.ld (Val := Elt Ideal) (S := S512x256) (e' := .f32) (iblk m c 1 t) (Rect.unit (s := S512x256) ![0, 0] ![256, 256] inb_S512x256_S256x256_0_0)) (View.ld (Val := Elt Ideal) (S := S4x256x256) (e' := .bf16) (iblk m c 6 t) (Rect.unit (s := S4x256x256) ![0, 0, 0] ![1, 256, 256] inb_S4x256x256_S1x256x256_0_0_0))⟩]
      (Rect.unit (s := S512x1024) ![0, 0] ![256, 1024] inb_S512x1024_S256x1024_0_0).toLoadRect : FVec Ideal S256x1024 .f32) = rows (r0 t) (pp m c) := by
  rw [View.readCov_eq_canon']
  refine funext fun j => quarters0 (pp m c) (r0 t) _ _ _ _ _ ?_ ?_ ?_ ?_ j _
    (show 0 + 1 * (j 0).val = _ by omega) (show 0 + 1 * (j 1).val = _ by omega)
  · rw [half10, shard3]; exact proj03 (pe m c) (wp m c) (r0 t)
  · rw [half10, shard2]; exact proj02 (pe m c) (wp m c) (r0 t)
  · rw [half10, shard1]; exact proj01 (pe m c) (wp m c) (r0 t)
  · rw [half10, shard0]; exact proj00 (pe m c) (wp m c) (r0 t)

/-- The projected embeddings of the second half, as the body reads them back. -/
theorem kept1 (c : Dev nD) (t : Fin cfg0.N) :
    ((View.whole cc0_scratch0).readCov (Val := Elt Ideal) [⟨(Rect.unit (s := S512x1024) ![256, 768] ![256, 256] inb_S512x1024_S256x256_256_768), k0_pay44 (F := Ideal) (k0_pay43 (F := Ideal) (View.ld (Val := Elt Ideal) (S := S512x256) (e' := .f32) (iblk m c 1 t) (Rect.unit (s := S512x256) ![256, 0] ![256, 256] inb_S512x256_S256x256_256_0)) (View.ld (Val := Elt Ideal) (S := S4x256x256) (e' := .bf16) (iblk m c 6 t) (Rect.unit (s := S4x256x256) ![3, 0, 0] ![1, 256, 256] inb_S4x256x256_S1x256x256_3_0_0)))⟩,
        ⟨(Rect.unit (s := S512x1024) ![256, 512] ![256, 256] inb_S512x1024_S256x256_256_512), k0_pay42 (F := Ideal) (View.ld (Val := Elt Ideal) (S := S512x256) (e' := .f32) (iblk m c 1 t) (Rect.unit (s := S512x256) ![256, 0] ![256, 256] inb_S512x256_S256x256_256_0)) (View.ld (Val := Elt Ideal) (S := S4x256x256) (e' := .bf16) (iblk m c 6 t) (Rect.unit (s := S4x256x256) ![2, 0, 0] ![1, 256, 256] inb_S4x256x256_S1x256x256_2_0_0))⟩,
        ⟨(Rect.unit (s := S512x1024) ![256, 256] ![256, 256] inb_S512x1024_S256x256_256_256), k0_pay41 (F := Ideal) (View.ld (Val := Elt Ideal) (S := S512x256) (e' := .f32) (iblk m c 1 t) (Rect.unit (s := S512x256) ![256, 0] ![256, 256] inb_S512x256_S256x256_256_0)) (View.ld (Val := Elt Ideal) (S := S4x256x256) (e' := .bf16) (iblk m c 6 t) (Rect.unit (s := S4x256x256) ![1, 0, 0] ![1, 256, 256] inb_S4x256x256_S1x256x256_1_0_0))⟩,
        ⟨(Rect.unit (s := S512x1024) ![256, 0] ![256, 256] inb_S512x1024_S256x256_256_0), k0_pay40 (F := Ideal) (View.ld (Val := Elt Ideal) (S := S512x256) (e' := .f32) (iblk m c 1 t) (Rect.unit (s := S512x256) ![256, 0] ![256, 256] inb_S512x256_S256x256_256_0)) (View.ld (Val := Elt Ideal) (S := S4x256x256) (e' := .bf16) (iblk m c 6 t) (Rect.unit (s := S4x256x256) ![0, 0, 0] ![1, 256, 256] inb_S4x256x256_S1x256x256_0_0_0))⟩,
        ⟨(Rect.unit (s := S512x1024) ![0, 768] ![256, 256] inb_S512x1024_S256x256_0_768), k0_pay15 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![3, 0, 0] ![1, 256, 256] inb_S4x256x256_S1x256x256_3_0_0))⟩,
        ⟨(Rect.unit (s := S512x1024) ![0, 512] ![256, 256] inb_S512x1024_S256x256_0_512), k0_pay14 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![2, 0, 0] ![1, 256, 256] inb_S4x256x256_S1x256x256_2_0_0))⟩,
        ⟨(Rect.unit (s := S512x1024) ![0, 256] ![256, 256] inb_S512x1024_S256x256_0_256), k0_pay13 (F := Ideal) (k0_pay11 (F := Ideal) (View.ld (Val := Elt Ideal) (S := S512x256) (e' := .f32) (iblk m c 1 t) (Rect.unit (s := S512x256) ![0, 0] ![256, 256] inb_S512x256_S256x256_0_0))) (View.ld (Val := Elt Ideal) (S := S4x256x256) (e' := .bf16) (iblk m c 6 t) (Rect.unit (s := S4x256x256) ![1, 0, 0] ![1, 256, 256] inb_S4x256x256_S1x256x256_1_0_0))⟩,
        ⟨(Rect.unit (s := S512x1024) ![0, 0] ![256, 256] inb_S512x1024_S256x256_0_0), k0_pay12 (F := Ideal) (View.ld (Val := Elt Ideal) (S := S512x256) (e' := .f32) (iblk m c 1 t) (Rect.unit (s := S512x256) ![0, 0] ![256, 256] inb_S512x256_S256x256_0_0)) (View.ld (Val := Elt Ideal) (S := S4x256x256) (e' := .bf16) (iblk m c 6 t) (Rect.unit (s := S4x256x256) ![0, 0, 0] ![1, 256, 256] inb_S4x256x256_S1x256x256_0_0_0))⟩]
      (Rect.unit (s := S512x1024) ![256, 0] ![256, 1024] inb_S512x1024_S256x1024_256_0).toLoadRect : FVec Ideal S256x1024 .f32) = rows (r1 t) (pp m c) := by
  rw [View.readCov_eq_canon']
  refine funext fun j => quarters256 (pp m c) (r1 t) _ _ _ _ _ ?_ ?_ ?_ ?_ j _
    (show 256 + 1 * (j 0).val = _ by omega) (show 0 + 1 * (j 1).val = _ by omega)
  · rw [half11, shard3]; exact proj13 (pe m c) (wp m c) (r1 t)
  · rw [half11, shard2]; exact proj12 (pe m c) (wp m c) (r1 t)
  · rw [half11, shard1]; exact proj11 (pe m c) (wp m c) (r1 t)
  · rw [half11, shard0]; exact proj10 (pe m c) (wp m c) (r1 t)

end Cert.Tail
end
-- ==== Proof.TailCases.lean ====
/- The gate and the loss: the blocks of the results that every grid point writes whole. -/
module

public import proofs.«01_k».proof.Proof.TailScratch

@[expose] public section

set_option maxRecDepth 16384

noncomputable section

namespace Cert.Tail

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- The gradient of the gate's input. -/
theorem out7 (c : Dev nD) (t : Fin cfg0.N) : ((outsAt0 m c t.val t.isLt).1 : FVec Ideal S512x1024 .f32) = fun y => val_main_v100 (F := Ideal) (h2 m c) (pe m c) (tg m c) (gp m c) (gf m c) (wg m c) (wp m c) (ix2 (row t (y 0)) (y 1)) := by
  by_cases h : t.val % 8 = 0
  · rw [outsAt0_A m c t h]
    frame_out
    simp only [half00 m c t, half01 m c t, half20 m c t, half21 m c t, whole3 m c t, whole4 m c t, whole5 m c t, kept0 m c t, kept1 m c t, gate, gate']
    exact halves t _ _ _ _ _ (back1 (h2 m c) (pe m c) (tg m c) (gp m c) (gf m c) (wg m c) (wp m c) (r1 t)) (back0 (h2 m c) (pe m c) (tg m c) (gp m c) (gf m c) (wg m c) (wp m c) (r0 t))
  · rw [outsAt0_B m c t h]
    frame_out
    simp only [half00 m c t, half01 m c t, half20 m c t, half21 m c t, whole3 m c t, whole4 m c t, whole5 m c t, kept0 m c t, kept1 m c t, gate, gate']
    exact halves t _ _ _ _ _ (back1 (h2 m c) (pe m c) (tg m c) (gp m c) (gf m c) (wg m c) (wp m c) (r1 t)) (back0 (h2 m c) (pe m c) (tg m c) (gp m c) (gf m c) (wg m c) (wp m c) (r0 t))

/-- The same gradient for the call that follows. -/
theorem out8 (c : Dev nD) (t : Fin cfg0.N) : ((outsAt0 m c t.val t.isLt).2.1 : FVec Ideal S512x1024 .bf16) = fun y => val_main_v101 (F := Ideal) (h2 m c) (pe m c) (tg m c) (gp m c) (gf m c) (wg m c) (wp m c) (ix2 (row t (y 0)) (y 1)) := by
  by_cases h : t.val % 8 = 0
  · rw [outsAt0_A m c t h]
    frame_out
    simp only [half00 m c t, half01 m c t, half20 m c t, half21 m c t, whole3 m c t, whole4 m c t, whole5 m c t, kept0 m c t, kept1 m c t, gate, gate']
    exact halves t _ _ _ _ _ (back1 (h2 m c) (pe m c) (tg m c) (gp m c) (gf m c) (wg m c) (wp m c) (r1 t)) (back0 (h2 m c) (pe m c) (tg m c) (gp m c) (gf m c) (wg m c) (wp m c) (r0 t))
  · rw [outsAt0_B m c t h]
    frame_out
    simp only [half00 m c t, half01 m c t, half20 m c t, half21 m c t, whole3 m c t, whole4 m c t, whole5 m c t, kept0 m c t, kept1 m c t, gate, gate']
    exact halves t _ _ _ _ _ (back1 (h2 m c) (pe m c) (tg m c) (gp m c) (gf m c) (wg m c) (wp m c) (r1 t)) (back0 (h2 m c) (pe m c) (tg m c) (gp m c) (gf m c) (wg m c) (wp m c) (r0 t))

/-- The normed input of the gate. -/
theorem out9 (c : Dev nD) (t : Fin cfg0.N) : ((outsAt0 m c t.val t.isLt).2.2.1 : FVec Ideal S512x1024 .bf16) = fun y => val_main_v102 (F := Ideal) (h2 m c) (gp m c) (ix2 (row t (y 0)) (y 1)) := by
  by_cases h : t.val % 8 = 0
  · rw [outsAt0_A m c t h]
    frame_out
    simp only [half00 m c t, half01 m c t, half20 m c t, half21 m c t, whole3 m c t, whole4 m c t, whole5 m c t, kept0 m c t, kept1 m c t, gate, gate']
    exact halves t _ _ _ _ _ (norm (h2 m c) (gp m c) (r1 t)) (norm (h2 m c) (gp m c) (r0 t))
  · rw [outsAt0_B m c t h]
    frame_out
    simp only [half00 m c t, half01 m c t, half20 m c t, half21 m c t, whole3 m c t, whole4 m c t, whole5 m c t, kept0 m c t, kept1 m c t, gate, gate']
    exact halves t _ _ _ _ _ (norm (h2 m c) (gp m c) (r1 t)) (norm (h2 m c) (gp m c) (r0 t))

/-- The gradient of the gate's logits. -/
theorem out10 (c : Dev nD) (t : Fin cfg0.N) : ((outsAt0 m c t.val t.isLt).2.2.2.1 : FVec Ideal S512x1024 .bf16) = fun y => val_main_v103 (F := Ideal) (h2 m c) (pe m c) (tg m c) (gp m c) (gf m c) (wg m c) (wp m c) (ix2 (row t (y 0)) (y 1)) := by
  by_cases h : t.val % 8 = 0
  · rw [outsAt0_A m c t h]
    frame_out
    simp only [half00 m c t, half01 m c t, half20 m c t, half21 m c t, whole3 m c t, whole4 m c t, whole5 m c t, kept0 m c t, kept1 m c t, gate, gate']
    exact halves t _ _ _ _ _ (backl1 (h2 m c) (pe m c) (tg m c) (gp m c) (gf m c) (wg m c) (wp m c) (r1 t)) (backl0 (h2 m c) (pe m c) (tg m c) (gp m c) (gf m c) (wg m c) (wp m c) (r0 t))
  · rw [outsAt0_B m c t h]
    frame_out
    simp only [half00 m c t, half01 m c t, half20 m c t, half21 m c t, whole3 m c t, whole4 m c t, whole5 m c t, kept0 m c t, kept1 m c t, gate, gate']
    exact halves t _ _ _ _ _ (backl1 (h2 m c) (pe m c) (tg m c) (gp m c) (gf m c) (wg m c) (wp m c) (r1 t)) (backl0 (h2 m c) (pe m c) (tg m c) (gp m c) (gf m c) (wg m c) (wp m c) (r0 t))

/-- The gradient of the projected embeddings. -/
theorem out11 (c : Dev nD) (t : Fin cfg0.N) : ((outsAt0 m c t.val t.isLt).2.2.2.2.1 : FVec Ideal S512x1024 .bf16) = fun y => val_main_v104 (F := Ideal) (h2 m c) (pe m c) (tg m c) (gp m c) (gf m c) (wg m c) (wp m c) (ix2 (row t (y 0)) (y 1)) := by
  by_cases h : t.val % 8 = 0
  · rw [outsAt0_A m c t h]
    frame_out
    simp only [half00 m c t, half01 m c t, half20 m c t, half21 m c t, whole3 m c t, whole4 m c t, whole5 m c t, kept0 m c t, kept1 m c t, gate, gate']
    exact halves t _ _ _ _ _ (backp1 (h2 m c) (pe m c) (tg m c) (gp m c) (gf m c) (wg m c) (wp m c) (r1 t)) (backp0 (h2 m c) (pe m c) (tg m c) (gp m c) (gf m c) (wg m c) (wp m c) (r0 t))
  · rw [outsAt0_B m c t h]
    frame_out
    simp only [half00 m c t, half01 m c t, half20 m c t, half21 m c t, whole3 m c t, whole4 m c t, whole5 m c t, kept0 m c t, kept1 m c t, gate, gate']
    exact halves t _ _ _ _ _ (backp1 (h2 m c) (pe m c) (tg m c) (gp m c) (gf m c) (wg m c) (wp m c) (r1 t)) (backp0 (h2 m c) (pe m c) (tg m c) (gp m c) (gf m c) (wg m c) (wp m c) (r0 t))

end Cert.Tail
end
-- ==== Proof.TailSum.lean ====
/- The gate and the loss: what each grid point adds to the two gains and to the loss. -/
module

public import proofs.«01_k».proof.Proof.TailScratch

@[expose] public section

set_option maxRecDepth 16384

noncomputable section

namespace Cert.Tail

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- The embeddings, rounded for the weight gradient. -/
theorem out12 (c : Dev nD) (t : Fin cfg0.N) : ((outsAt0 m c t.val t.isLt).2.2.2.2.2.1 : FVec Ideal S512x256 .bf16) = fun y => val_main_v105 (F := Ideal) (pe m c) (ix2 (row t (y 0)) (y 1)) := by
  by_cases h : t.val % 8 = 0
  · rw [outsAt0_A m c t h]
    frame_out
    simp only [half10 m c t, half11 m c t]
    exact halves t _ _ _ _ _ rfl rfl
  · rw [outsAt0_B m c t h]
    frame_out
    simp only [half10 m c t, half11 m c t]
    exact halves t _ _ _ _ _ rfl rfl

/-- A sum over a grid point's rows, half by half. -/
theorem split (t : Fin cfg0.N) (f : Fin 4096 → EReal) : ∑ x : Fin 256, f (r0 t x) + ∑ x : Fin 256, f (r1 t x) = ∑ x : Fin 512, f (row t x) :=
  (Fin.sum_univ_add (a := 256) (b := 256) (fun x : Fin (256 + 256) => f (row t x))).symm

theorem add33 (v O : FVec Ideal S1x1024 .f32) (y : S1x1024.Idx) : k0_pay33 (F := Ideal) v O y = O y + v y := by
  unfold k0_pay33
  rw [shapeCast_self]
  rfl
theorem add34 (v O : FVec Ideal S1x1024 .f32) (y : S1x1024.Idx) : k0_pay34 (F := Ideal) v O y = O y + v y := by
  unfold k0_pay34
  rw [shapeCast_self]
  rfl
theorem add4 (v O : FVec Ideal S1x1024 .f32) (y : S1x1024.Idx) : k0_pay4 (F := Ideal) v O y = O y + v y := by
  unfold k0_pay4
  rw [shapeCast_self]
  rfl
theorem add35 (v : EReal) (O : FVec Ideal S1x128 .f32) (y : S1x128.Idx) : k0_pay35 (F := Ideal) v O y = O y + v := by
  unfold k0_pay35
  rw [shapeCast_self]
  rfl
theorem add5 (v : EReal) (O : FVec Ideal S1x128 .f32) (y : S1x128.Idx) : k0_pay5 (F := Ideal) v O y = O y + v := by
  unfold k0_pay5
  rw [shapeCast_self]
  rfl
theorem zero6 (y : S1x1024.Idx) : k0_pay6 (F := Ideal) y = (0 : EReal) := by
  pointwise [k0_pay6]
theorem zero7 (y : S1x1024.Idx) : k0_pay7 (F := Ideal) y = (0 : EReal) := by
  pointwise [k0_pay7]
theorem zero8 (y : S1x128.Idx) : k0_pay8 (F := Ideal) y = (0 : EReal) := by
  pointwise [k0_pay8]

/-- What grid point `t` adds to the gate's norm's gain. -/
noncomputable def partg (c : Dev nD) (t : Fin cfg0.N) (k : Fin 1024) : EReal := ∑ x : Fin 512, val_main_v81 (F := Ideal) (h2 m c) (pe m c) (tg m c) (gp m c) (gf m c) (wg m c) (wp m c) (ix2 (row t x) k)
/-- What grid point `t` adds to the final norm's gain. -/
noncomputable def partf (c : Dev nD) (t : Fin cfg0.N) (k : Fin 1024) : EReal := ∑ x : Fin 512, val_main_v58 (F := Ideal) (h2 m c) (pe m c) (tg m c) (gp m c) (gf m c) (wg m c) (wp m c) (ix2 (row t x) k)
/-- What grid point `t` adds to the loss. -/
noncomputable def partl (c : Dev nD) (t : Fin cfg0.N) : EReal :=
  ∑ x : Fin 512, (∑ k : Fin 1024, val_main_v44 (F := Ideal) (h2 m c) (pe m c) (tg m c) (gp m c) (gf m c) (wg m c) (wp m c) (ix2 (row t x) k)) * ((1 / 2048 : ℝ) : EReal)

/-- The two halves' parts of the loss. -/
theorem partl_eq (c : Dev nD) (t : Fin cfg0.N) :
    (∑ x : Fin 256, ∑ k : Fin 1024, val_main_v44 (F := Ideal) (h2 m c) (pe m c) (tg m c) (gp m c) (gf m c) (wg m c) (wp m c) (ix2 (r0 t x) k)) * ((1 / 2048 : ℝ) : EReal)
      + (∑ x : Fin 256, ∑ k : Fin 1024, val_main_v44 (F := Ideal) (h2 m c) (pe m c) (tg m c) (gp m c) (gf m c) (wg m c) (wp m c) (ix2 (r1 t x) k)) * ((1 / 2048 : ℝ) : EReal) = partl m c t := by
  rw [← Rms.sum_mul_coe _ _ (by norm_num), ← Rms.sum_mul_coe _ _ (by norm_num)]
  exact split t fun r => (∑ k : Fin 1024, val_main_v44 (F := Ideal) (h2 m c) (pe m c) (tg m c) (gp m c) (gf m c) (wg m c) (wp m c) (ix2 r k)) * ((1 / 2048 : ℝ) : EReal)

/-- The gate's norm's gain, at the first grid point. -/
theorem stepg_A (c : Dev nD) (y : S1x1024.Idx) (t : Fin cfg0.N) (h : t.val % 8 = 0) :
    (outsAt0 m c t.val t.isLt).2.2.2.2.2.2.1 y = (0 : EReal) + partg m c t (y 1) := by
  rw [outsAt0_A m c t h]
  frame_out
  simp only [half00 m c t, half01 m c t, half20 m c t, half21 m c t, whole3 m c t, whole4 m c t, whole5 m c t, kept0 m c t, kept1 m c t, gate, gate']
  rw [gaing1, add33, gaing0, zero6, add_assoc]
  exact congrArg _ (split t fun r => val_main_v81 (F := Ideal) (h2 m c) (pe m c) (tg m c) (gp m c) (gf m c) (wg m c) (wp m c) (ix2 r (y 1)))

/-- The final norm's gain, at the first grid point. -/
theorem stepf_A (c : Dev nD) (y : S1x1024.Idx) (t : Fin cfg0.N) (h : t.val % 8 = 0) :
    (outsAt0 m c t.val t.isLt).2.2.2.2.2.2.2.1 y = (0 : EReal) + partf m c t (y 1) := by
  rw [outsAt0_A m c t h]
  frame_out
  simp only [half00 m c t, half01 m c t, half20 m c t, half21 m c t, whole3 m c t, whole4 m c t, whole5 m c t, kept0 m c t, kept1 m c t, gate, gate']
  rw [add4, gainf1, add34, gainf0, zero7, add_assoc]
  exact congrArg _ (split t fun r => val_main_v58 (F := Ideal) (h2 m c) (pe m c) (tg m c) (gp m c) (gf m c) (wg m c) (wp m c) (ix2 r (y 1)))

/-- The loss, at the first grid point. -/
theorem stepl_A (c : Dev nD) (y : S1x128.Idx) (t : Fin cfg0.N) (h : t.val % 8 = 0) :
    (outsAt0 m c t.val t.isLt).2.2.2.2.2.2.2.2 y = (0 : EReal) + partl m c t := by
  rw [outsAt0_A m c t h]
  frame_out
  simp only [half00 m c t, half01 m c t, half20 m c t, half21 m c t, whole3 m c t, whole4 m c t, whole5 m c t, kept0 m c t, kept1 m c t, gate, gate']
  rw [add5, loss1, add35, loss0, zero8, add_assoc]
  exact congrArg _ (partl_eq m c t)

/-- The gate's norm's gain, at a later grid point. -/
theorem stepg_B (c : Dev nD) (y : S1x1024.Idx) (t : Fin cfg0.N) (h : ¬t.val % 8 = 0) :
    (outsAt0 m c t.val t.isLt).2.2.2.2.2.2.1 y = (outsAt0 m c (t.val - 1) (Nat.lt_of_le_of_lt (Nat.sub_le _ _) t.isLt)).2.2.2.2.2.2.1 y + partg m c t (y 1) := by
  rw [outsAt0_B m c t h]
  frame_out
  simp only [half00 m c t, half01 m c t, half20 m c t, half21 m c t, whole3 m c t, whole4 m c t, whole5 m c t, kept0 m c t, kept1 m c t, gate, gate']
  rw [gaing1, add33, gaing0, add_assoc]
  exact congrArg _ (split t fun r => val_main_v81 (F := Ideal) (h2 m c) (pe m c) (tg m c) (gp m c) (gf m c) (wg m c) (wp m c) (ix2 r (y 1)))

/-- The final norm's gain, at a later grid point. -/
theorem stepf_B (c : Dev nD) (y : S1x1024.Idx) (t : Fin cfg0.N) (h : ¬t.val % 8 = 0) :
    (outsAt0 m c t.val t.isLt).2.2.2.2.2.2.2.1 y = (outsAt0 m c (t.val - 1) (Nat.lt_of_le_of_lt (Nat.sub_le _ _) t.isLt)).2.2.2.2.2.2.2.1 y + partf m c t (y 1) := by
  rw [outsAt0_B m c t h]
  frame_out
  simp only [half00 m c t, half01 m c t, half20 m c t, half21 m c t, whole3 m c t, whole4 m c t, whole5 m c t, kept0 m c t, kept1 m c t, gate, gate']
  rw [add4, gainf1, add34, gainf0, add_assoc]
  exact congrArg _ (split t fun r => val_main_v58 (F := Ideal) (h2 m c) (pe m c) (tg m c) (gp m c) (gf m c) (wg m c) (wp m c) (ix2 r (y 1)))

/-- The loss, at a later grid point. -/
theorem stepl_B (c : Dev nD) (y : S1x128.Idx) (t : Fin cfg0.N) (h : ¬t.val % 8 = 0) :
    (outsAt0 m c t.val t.isLt).2.2.2.2.2.2.2.2 y = (outsAt0 m c (t.val - 1) (Nat.lt_of_le_of_lt (Nat.sub_le _ _) t.isLt)).2.2.2.2.2.2.2.2 y + partl m c t := by
  rw [outsAt0_B m c t h]
  frame_out
  simp only [half00 m c t, half01 m c t, half20 m c t, half21 m c t, whole3 m c t, whole4 m c t, whole5 m c t, kept0 m c t, kept1 m c t, gate, gate']
  rw [add5, loss1, add35, loss0, add_assoc]
  exact congrArg _ (partl_eq m c t)

end Cert.Tail
end
-- ==== Proof.Tail.lean ====
/- The gate and the loss: what the call leaves in its nine results is what the reference computes. -/
module

public import proofs.«01_k».proof.Proof.TailCases
public import proofs.«01_k».proof.Proof.TailSum
public import Idealize.ShloMosaic.Lib.Claim

@[expose] public section

set_option maxRecDepth 16384

noncomputable section

namespace Cert.Tail

open Cert.Kernel7Ideal Cert.Kernel7Ideal.Gen Idealize.ShloMosaic Idealize.ShloMosaic.TcCoe Idealize.SL.Sem
open Idealize.ShloMosaic.Pipeline (Dat)
open Cert.Reference7Ideal.Read

variable (m : (ℓ : Loc nD τ sig) → Buf (Elt Ideal) ℓ)

/-- The gradient of the gate's input. -/
theorem final7 (c : Dev nD) : (dats m 0 c).arrAt 7 (cfgs 0).N = val_main_v100 (F := Ideal) (h2 m c) (pe m c) (tg m c) (gp m c) (gf m c) (wg m c) (wp m c) := by
  refine (dats m 0 c).arrAt_eq_of_covers 7 _ (by decide +kernel) fun t hf y => ?_
  blk_simp
  rw [after0_7, out7]
  blk_point [idx t]

/-- The same gradient, rounded. -/
theorem final8 (c : Dev nD) : (dats m 0 c).arrAt 8 (cfgs 0).N = val_main_v101 (F := Ideal) (h2 m c) (pe m c) (tg m c) (gp m c) (gf m c) (wg m c) (wp m c) := by
  refine (dats m 0 c).arrAt_eq_of_covers 8 _ (by decide +kernel) fun t hf y => ?_
  blk_simp
  rw [after0_8, out8]
  blk_point [idx t]

/-- The normed input of the gate. -/
theorem final9 (c : Dev nD) : (dats m 0 c).arrAt 9 (cfgs 0).N = val_main_v102 (F := Ideal) (h2 m c) (gp m c) := by
  refine (dats m 0 c).arrAt_eq_of_covers 9 _ (by decide +kernel) fun t hf y => ?_
  blk_simp
  rw [after0_9, out9]
  blk_point [idx t]

/-- The gradient of the gate's logits. -/
theorem final10 (c : Dev nD) : (dats m 0 c).arrAt 10 (cfgs 0).N = val_main_v103 (F := Ideal) (h2 m c) (pe m c) (tg m c) (gp m c) (gf m c) (wg m c) (wp m c) := by
  refine (dats m 0 c).arrAt_eq_of_covers 10 _ (by decide +kernel) fun t hf y => ?_
  blk_simp
  rw [after0_10, out10]
  blk_point [idx t]

/-- The gradient of the projected embeddings. -/
theorem final11 (c : Dev nD) : (dats m 0 c).arrAt 11 (cfgs 0).N = val_main_v104 (F := Ideal) (h2 m c) (pe m c) (tg m c) (gp m c) (gf m c) (wg m c) (wp m c) := by
  refine (dats m 0 c).arrAt_eq_of_covers 11 _ (by decide +kernel) fun t hf y => ?_
  blk_simp
  rw [after0_11, out11]
  blk_point [idx t]

/-- The embeddings, rounded. -/
theorem final12 (c : Dev nD) : (dats m 0 c).arrAt 12 (cfgs 0).N = val_main_v105 (F := Ideal) (pe m c) := by
  refine (dats m 0 c).arrAt_eq_of_covers 12 _ (by decide +kernel) fun t hf y => ?_
  blk_simp
  rw [after0_12, out12]
  blk_point [idx t]

/-- The gradient of the gate's norm's gain. -/
theorem final13 (c : Dev nD) : (dats m 0 c).arrAt 13 (cfgs 0).N = val_main_v83 (F := Ideal) (h2 m c) (pe m c) (tg m c) (gp m c) (gf m c) (wg m c) (wp m c) := by
  refine (dats m 0 c).arrAt_eq_of_covers 13 _ (by decide +kernel) fun t hf y => ?_
  have hl : t.val + 1 = cfg0.N := by have := (flush0_13 t).mp hf; have := lt_of_lt_of_eq t.isLt N_0; exact (show t.val + 1 = 8 by omega).trans N_0.symm
  have key : ∀ y : S1x1024.Idx, (outsAt0 m c t.val t.isLt).2.2.2.2.2.2.1 y = val_main_v83 (F := Ideal) (h2 m c) (pe m c) (tg m c) (gp m c) (gf m c) (wg m c) (wp m c) y := by
    intro y
    rw [Pipeline.eq_sum_fin_of_reset_step_last (fun n h => (outsAt0 m c n h).2.2.2.2.2.2.1 y) 8 0 (fun t => partg m c t (y 1))
      (fun t h => stepg_A m c y t h) (fun t h => stepg_B m c y t h) N_0.le t hl, zero_add]
    obtain ⟨r, k, rfl⟩ : ∃ r k, y = ix2 r k := ⟨y 0, y 1, (ix2_eta y).symm⟩
    generalize hv : val_main_v81 (F := Ideal) (h2 m c) (pe m c) (tg m c) (gp m c) (gf m c) (wg m c) (wp m c) = v
    have hg : ∀ p, partg m c p k = ∑ x : Fin 512, v (ix2 (row p x) k) := by
      intro p; rw [← hv]; rfl
    pointwise [val_main_v83, val_main_v82, val_main_cst_22]
    rw [hv]
    simp only [hg]
    exact Fin.sum_mul_add_congr fun q x hl => congrArg v (congrArg₂ ix2 (Fin.ext (by simp)) rfl)
  blk_simp
  rw [after0_13, key]
  blk_point [idx t]

/-- The gradient of the final norm's gain. -/
theorem final14 (c : Dev nD) : (dats m 0 c).arrAt 14 (cfgs 0).N = val_main_v60 (F := Ideal) (h2 m c) (pe m c) (tg m c) (gp m c) (gf m c) (wg m c) (wp m c) := by
  refine (dats m 0 c).arrAt_eq_of_covers 14 _ (by decide +kernel) fun t hf y => ?_
  have hl : t.val + 1 = cfg0.N := by have := (flush0_14 t).mp hf; have := lt_of_lt_of_eq t.isLt N_0; exact (show t.val + 1 = 8 by omega).trans N_0.symm
  have key : ∀ y : S1x1024.Idx, (outsAt0 m c t.val t.isLt).2.2.2.2.2.2.2.1 y = val_main_v60 (F := Ideal) (h2 m c) (pe m c) (tg m c) (gp m c) (gf m c) (wg m c) (wp m c) y := by
    intro y
    rw [Pipeline.eq_sum_fin_of_reset_step_last (fun n h => (outsAt0 m c n h).2.2.2.2.2.2.2.1 y) 8 0 (fun t => partf m c t (y 1))
      (fun t h => stepf_A m c y t h) (fun t h => stepf_B m c y t h) N_0.le t hl, zero_add]
    obtain ⟨r, k, rfl⟩ : ∃ r k, y = ix2 r k := ⟨y 0, y 1, (ix2_eta y).symm⟩
    generalize hv : val_main_v58 (F := Ideal) (h2 m c) (pe m c) (tg m c) (gp m c) (gf m c) (wg m c) (wp m c) = v
    have hg : ∀ p, partf m c p k = ∑ x : Fin 512, v (ix2 (row p x) k) := by
      intro p; rw [← hv]; rfl
    pointwise [val_main_v60, val_main_v59, val_main_cst_18]
    rw [hv]
    simp only [hg]
    exact Fin.sum_mul_add_congr fun q x hl => congrArg v (congrArg₂ ix2 (Fin.ext (by simp)) rfl)
  blk_simp
  rw [after0_14, key]
  blk_point [idx t]

/-- The loss: half the mean over the features of the squared distance, added over the tokens. -/
theorem final15 (c : Dev nD) : (dats m 0 c).arrAt 15 (cfgs 0).N = val_main_v106 (F := Ideal) (h2 m c) (pe m c) (tg m c) (gp m c) (gf m c) (wg m c) (wp m c) := by
  refine (dats m 0 c).arrAt_eq_of_covers 15 _ (by decide +kernel) fun t hf y => ?_
  have hl : t.val + 1 = cfg0.N := by have := (flush0_15 t).mp hf; have := lt_of_lt_of_eq t.isLt N_0; exact (show t.val + 1 = 8 by omega).trans N_0.symm
  have key : ∀ y : S1x128.Idx, (outsAt0 m c t.val t.isLt).2.2.2.2.2.2.2.2 y = val_main_v106 (F := Ideal) (h2 m c) (pe m c) (tg m c) (gp m c) (gf m c) (wg m c) (wp m c) y := by
    intro y
    rw [Pipeline.eq_sum_fin_of_reset_step_last (fun n h => (outsAt0 m c n h).2.2.2.2.2.2.2.2 y) 8 0 (fun t => partl m c t)
      (fun t h => stepl_A m c y t h) (fun t h => stepl_B m c y t h) N_0.le t hl, zero_add]
    generalize hv : val_main_v44 (F := Ideal) (h2 m c) (pe m c) (tg m c) (gp m c) (gf m c) (wg m c) (wp m c) = v
    have hg : ∀ p, partl m c p = ∑ x : Fin 512, (∑ k : Fin 1024, v (ix2 (row p x) k)) * ((1 / 2048 : ℝ) : EReal) := by
      intro p; rw [← hv]; rfl
    have hs : ∑ p : Fin cfg0.N, partl m c p = ∑ r : Fin 4096, (∑ k : Fin 1024, v (ix2 r k)) * ((1 / 2048 : ℝ) : EReal) := by
      simp only [hg]
      exact Fin.sum_mul_add_congr fun q x hl => congrArg (fun r : Fin 4096 => (∑ k : Fin 1024, v (ix2 r k)) * ((1 / 2048 : ℝ) : EReal)) (Fin.ext (by simp))
    rw [hs, Rms.sum_mul_coe _ _ (by norm_num)]
    obtain ⟨r, k, rfl⟩ : ∃ r k, y = ix2 r k := ⟨y 0, y 1, (ix2_eta y).symm⟩
    pointwise [val_main_v106, val_main_v51, val_main_v50, val_main_v49, val_main_v48, val_main_v47, val_main_cst_11, val_main_cst_12, val_main_cst_13, val_main_cst_14]
    rw [hv]
    rw [Rms.ofBits_1024, ofBits_half]
    simp only [Ideal.div_coe (show (1024 : ℝ) ≠ 0 by norm_num)]
    rw [Rms.sum_mul_coe _ _ (by norm_num), mul_comm ((1 / 2 : ℝ) : EReal), mul_assoc, ← EReal.coe_mul]
    norm_num
  blk_simp
  rw [after0_15, key]
  blk_point [idx t]

end Cert.Tail
end
-- ==== Proof.MlpFwdRuns.lean ====
/- The forward MLP call: its arrays as the launch leaves them, its blocks, and at which grid points each buffer is written. -/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.MlpFwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host's operations -/

/-- The TensorCore buffers of core `c` after the host's operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host's operations and then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes this argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes this argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- A run of the pipeline that ends as the library says leaves the arguments as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's branch conditions -/

/-- The body's one condition: the first block of hidden units. -/
abbrev cond0_0 (i : grid0.Coords) : Prop := k0_cond1 i = 1#1
/-- It holds at every fourth point. -/
theorem hcond0_0 : ∀ t : Fin cfg0.N, cond0_0 (grid0.coords t) ↔ t.val % 4 = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the body stores nothing into a window -/

/-- This window is used at every point. -/
theorem liveAt0_0 : ∀ t : Fin cfg0.N, cfg0.idle 0 (grid0.coords t) = false := fun _ => rfl
/-- This window is used at every point. -/
theorem liveAt0_1 : ∀ t : Fin cfg0.N, cfg0.idle 1 (grid0.coords t) = false := fun _ => rfl
/-- This window is used at every point. -/
theorem liveAt0_2 : ∀ t : Fin cfg0.N, cfg0.idle 2 (grid0.coords t) = false := fun _ => rfl
/-- This window is used at every point. -/
theorem liveAt0_3 : ∀ t : Fin cfg0.N, cfg0.idle 3 (grid0.coords t) = false := fun _ => rfl
/-- This window is used at every point. -/
theorem liveAt0_4 : ∀ t : Fin cfg0.N, cfg0.idle 4 (grid0.coords t) = false := fun _ => rfl
/-- This window is used at every point. -/
theorem liveAt0_5 : ∀ t : Fin cfg0.N, cfg0.idle 5 (grid0.coords t) = false := fun _ => rfl
/-- The positions where output 6's buffer holds nothing yet: after every fourth point. -/
def freshTab0_6 : ℕ → Bool
  | 0 => true
  | n + 1 => (0x8888 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- At the first block of hidden units the body stores into output 6. -/
theorem liveAt0_6_A : ∀ t : Fin cfg0.N, cond0_0 (grid0.coords t) → cfg0.idle 6 (grid0.coords t) = false := by decide +kernel
/-- After the first block of hidden units the body stores nothing into output 6. -/
theorem idleAt0_6_B : ∀ t : Fin cfg0.N, ¬cond0_0 (grid0.coords t) → cfg0.idle 6 (grid0.coords t) = true := by decide +kernel
/-- At a later block the buffer of output 6 holds what was stored. -/
theorem notFresh0_6_B : ∀ t : Fin cfg0.N, ¬cond0_0 (grid0.coords t) → cfg0.fresh 6 t.val = false := by
  intro t; rw [fresh0_6_eq t]; revert t; decide +kernel

/-! ## The buffers -/

/-- A buffer through which what an output holds is stated. -/
abbrev VO0_4 : View sig .tc .vmem S1024x1024 .f32 := (Memref.whole cc0_stg4_0 : Memref sig .tc .vmem S1024x1024 .f32).view
/-- A buffer through which what an output holds is stated. -/
abbrev VO0_5 : View sig .tc .vmem S1024x1024 .bf16 := (Memref.whole cc0_stg5_0 : Memref sig .tc .vmem S1024x1024 .bf16).view
/-- A buffer through which what an output holds is stated. -/
abbrev VO0_6 : View sig .tc .vmem S1024x1024 .bf16 := (Memref.whole cc0_stg6_0 : Memref sig .tc .vmem S1024x1024 .bf16).view
/-- The buffer that each window has at grid point `t`. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)

end Cert.MlpFwd

end
-- ==== Proof.MlpFwdRunA.lean ====
/- The forward MLP call: the body's run at the first block of hidden units. -/
module

public import proofs.«01_k».proof.Proof.MlpFwdRuns

@[expose] public section

set_option maxRecDepth 16384

noncomputable section

namespace Cert.MlpFwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first block of hidden units the body stores its three outputs whole: the stores, with the proof that the
    body runs to them. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) :
    Σ' (L4 : List (View.Piece (Elt F) S1024x1024 .f32)), Σ' (L5 : List (View.Piece (Elt F) S1024x1024 .bf16)), { L6 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_mlp_fwd i arg2 harg2 arg3 harg3 arg4 harg4 arg5 harg5 arg6 harg6 arg7 harg7 arg8 harg8) K } := by
  refine ⟨?_, ?_, ?_, fun E K => ?run⟩
  case run =>
    simp only [cc0_mlp_fwd_eq_skeleton]; unfold cc0_mlp_fwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.MlpFwd

end
-- ==== Proof.MlpFwdRunB.lean ====
/- The forward MLP call: the body's run at a later block of hidden units. -/
module

public import proofs.«01_k».proof.Proof.MlpFwdRunA

@[expose] public section

set_option maxRecDepth 16384

noncomputable section

namespace Cert.MlpFwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later block the body adds to the first output, stores the second and only reads the third: the stores, with
    the proof that the body runs to them. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) :
    Σ' (L4 : List (View.Piece (Elt F) S1024x1024 .f32)), Σ' (L5 : List (View.Piece (Elt F) S1024x1024 .bf16)), { L6 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ (∃ d, owns (c : Thread nD τ) arg7 fullShare d) ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xo6) -∗ K ⟨⟩))
          ⊢ wp frame (wpE (defs₀ (F := F)) Variants.none c none) E (cc0_mlp_fwd i arg2 harg2 arg3 harg3 arg4 harg4 arg5 harg5 arg6 harg6 arg7 harg7 arg8 harg8) K } := by
  refine ⟨?_, ?_, [], fun E K => ?run⟩
  case run =>
    simp only [cc0_mlp_fwd_eq_skeleton]; unfold cc0_mlp_fwd_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; isplitr; · ipureintro; exact harg8.read_unread _
    iexact H6

end Cert.MlpFwd

end
-- ==== Proof.MlpFwdFrame.lean ====
/- The forward MLP call: what its outputs hold after each grid point, its run and its frame. -/
module

public import proofs.«01_k».proof.Proof.MlpFwdRunB
public import Idealize.ShloMosaic.Lib.Claim

@[expose] public section

set_option maxRecDepth 16384

noncomputable section

namespace Cert.MlpFwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores cover the output's block. -/
theorem cover0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) (y : S1024x1024.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1024x1024.size (by sl_kernel_rfl) y

/-- What the first block of hidden units leaves in output 4. -/
def out0_A_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) : Vec F S1024x1024 .f32 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

/-- The stores cover the output's block. -/
theorem cover0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) (y : S1024x1024.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S1024x1024.size (by sl_kernel_rfl) y

/-- What the first block of hidden units leaves in output 5. -/
def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) : Vec F S1024x1024 .bf16 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

/-- The stores cover the output's block. -/
theorem cover0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) (y : S1024x1024.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1024x1024.size (by sl_kernel_rfl) y

/-- What the first block of hidden units leaves in output 6. -/
def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : cond0_0 i)
    (x0 : Vec F S1024x1024 .f32) (x1 : Vec F S1x1024 .f32) (x2 : Vec F S1x1024x1024 .bf16) (x3 : Vec F S1x1024x1024 .bf16) : Vec F S1024x1024 .bf16 :=
  VO0_6.read (Elt F) (VO0_6.writes (Elt F) VO0_6.junk (kernelRun0_A c i arg2 harg2 arg3 harg3 arg4 harg4 arg5 harg5 arg6 harg6 arg7 harg7 arg8 harg8 hc0 x0 x1 x2 x3).2.2.1)

/-- The stores cover the output's block. -/
theorem cover0_B_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) (y : S1024x1024.Idx) :
    ∃ pc ∈ (kernelRun0_B c i arg2 harg2 arg3 harg3 arg4 harg4 arg5 harg5 arg6 harg6 arg7 harg7 arg8 harg8 hc0 x0 x1 x2 x3 xo4 xo6).1, y ∈ pc.1.set :=
  View.cover_of_tiledL (kernelRun0_B c i arg2 harg2 arg3 harg3 arg4 harg4 arg5 harg5 arg6 harg6 arg7 harg7 arg8 harg8 hc0 x0 x1 x2 x3 xo4 xo6).1 S1024x1024.size (by sl_kernel_rfl) y

/-- What a later block of hidden units leaves in output 4. -/
def out0_B_4 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) : Vec F S1024x1024 .f32 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xo4 xo6).1)

/-- The stores cover the output's block. -/
theorem cover0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) (y : S1024x1024.Idx) :
    ∃ pc ∈ (kernelRun0_B c i arg2 harg2 arg3 harg3 arg4 harg4 arg5 harg5 arg6 harg6 arg7 harg7 arg8 harg8 hc0 x0 x1 x2 x3 xo4 xo6).2.1, y ∈ pc.1.set :=
  View.cover_of_tiledL (kernelRun0_B c i arg2 harg2 arg3 harg3 arg4 harg4 arg5 harg5 arg6 harg6 arg7 harg7 arg8 harg8 hc0 x0 x1 x2 x3 xo4 xo6).2.1 S1024x1024.size (by sl_kernel_rfl) y

/-- What a later block of hidden units leaves in output 5. -/
def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) : Vec F S1024x1024 .bf16 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xo4 xo6).2.1)

/-- A later block leaves output 6 as it is. -/
def out0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (hc0 : ¬cond0_0 i)
    (x0 : Vec F S1024x1024 .f32) (x1 : Vec F S1x1024 .f32) (x2 : Vec F S1x1024x1024 .bf16) (x3 : Vec F S1x1024x1024 .bf16) (xo4 : Vec F S1024x1024 .f32) (xo6 : Vec F S1024x1024 .bf16) : Vec F S1024x1024 .bf16 := xo6

/-! ## What the outputs hold after each point -/

/-- What the three outputs' buffers hold after grid point `n`: a later block starts from what the point before left. -/
def outsAt0 (c : Dev nD) : (n : ℕ) → n < cfg0.N → Vec F S1024x1024 .f32 × Vec F S1024x1024 .bf16 × Vec F S1024x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 4 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.2)

/-- At the first block of hidden units. -/
theorem outsAt0_A (c : Dev nD) (t : Fin cfg0.N) (h0 : t.val % 4 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- At a later block. -/
theorem outsAt0_B (c : Dev nD) (t : Fin cfg0.N) (h0 : ¬t.val % 4 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- What the pipeline's buffers hold: an input its block, an output `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0

/-- The arrays are as the host leaves them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

/-- An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the body stores nothing into output 6 its buffer keeps what the point before left. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 16 := lt_of_lt_of_eq t.isLt (show cfg0.N = 16 from N_0)
  rw [after0_6, after0_6]
  by_cases h0 : t.val % 4 = 0
  · rw [liveAt0_6_A t ((hcond0_0 t).mpr h0)] at hi
    exact absurd hi Bool.false_ne_true
  · rw [outsAt0_B m c t h0]; dsimp only; unfold out0_B_6; rfl
/-- At a later block output 4 holds what the point before left. -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later block output 6 holds what the point before left. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2 := by
  rw [Dat.before_out_traj _ 6 rfl (fun _ _ => rfl) (hcarry0_6 m c) t.val t rfl d,
    if_neg (by rw [notFresh0_6_B t (fun h => h0 ((hcond0_0 t).mp h))]; exact Bool.false_ne_true)]
  dsimp only [dats]

/-- At a later block of hidden units the buffer of output 6, which still holds what the point before left, is as the
    pipeline wants it: at the last block the one that is written back, before that the one that was found. -/
theorem leave6_B (c : Dev nD) (t : Fin cfg0.N) (h0 : ¬t.val % 4 = 0) :
    (owns (c : Thread nD τ) (ms0_6 t) fullShare (outsAt0 m c (t.val - 1) (Nat.lt_of_le_of_lt (Nat.sub_le _ _) t.isLt)).2.2 : sProp 𝕄) ⊢ (dats m 0 c).leavesExact 6 t := by
  unfold Dat.leavesExact
  rw [idleAt0_6_B t (fun h => h0 ((hcond0_0 t).mp h))]
  cases hf : (cfg0.win 6).flush t with
  | false =>
    simp only [before0_6_B m c t h0]
    iintro H6
    iexists (outsAt0 m c (t.val - 1) (Nat.lt_of_le_of_lt (Nat.sub_le _ _) t.isLt)).2.2
    iexact H6
  | true =>
    simp only [after0_6]
    rw [outsAt0_B m c t h0]
    dsimp only
    unfold out0_B_6
    iintro H6
    iexact H6

/-! ## The body obligation, at a generic point -/

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point turns what it finds into what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 4 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_A t ((hcond0_0 t).mpr h0)], after0_6]
    rw [outsAt0_A m c t h0]
    unfold out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_B m c t h0]
    simp only [before0_4_B m c t h0, before0_6_B m c t h0]
    unfold out0_B_4 out0_B_5; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) _ _).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, ⟨%e4, H4⟩, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _)
    iapply (leave6_B m c t h0); iexact H6

/-- The table's entry at point `t` is the body. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to the end, with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, with every array as the pipeline leaves it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments are as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the program runs to the end, leaves its arguments and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MlpFwd

end
-- ==== Proof.MlpFwd.lean ====
/- The forward MLP call: what it leaves in its three results is what the reference computes. -/
module

public import proofs.«01_k».proof.Proof.MlpFwdFrame
public import proofs.«01_k».proof.Proof.Gen.Reference8Ideal.Read
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.MlpFwd

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

open Cert.Reference8Ideal.Read

/-- Which block each window holds at grid point `t`. -/
theorem idx : ∀ t : Fin cfg0.N, win0_0.index t = ![t.val / 4, 0] ∧ win0_1.index t = ![0, 0] ∧ win0_2.index t = ![t.val % 4, 0, 0] ∧ win0_3.index t = ![t.val % 4, 0, 0] ∧ win0_4.index t = ![t.val / 4, 0] ∧ win0_5.index t = ![t.val / 4, t.val % 4] ∧ win0_6.index t = ![t.val / 4, 0] :=
  (by decide +kernel : ∀ t : Fin grid0.N, _)

/-- Row `r` of grid point `t`'s tokens as a row of the whole array. -/
abbrev row (t : Fin cfg0.N) (r : Fin 1024) : Fin 4096 :=
  ⟨t.val / 4 * 1024 + r.val, by have := r.isLt; have := lt_of_lt_of_eq t.isLt N_0; omega⟩

/-- Lane `k` of grid point `t`'s block of hidden units as a unit of the whole layer. -/
abbrev unit (t : Fin cfg0.N) (k : Fin 1024) : Fin 4096 :=
  ⟨t.val % 4 * 1024 + k.val, by have := k.isLt; omega⟩

/-- The four arguments on device `c`. -/
abbrev h1 (c : Dev nD) : FVec Ideal S4096x1024 .f32 := m ((c : Thread nD τ).loc main_arg0)
abbrev g (c : Dev nD) : FVec Ideal S1x1024 .f32 := m ((c : Thread nD τ).loc main_arg1)
abbrev wu (c : Dev nD) : FVec Ideal S1024x4096 .f32 := m ((c : Thread nD τ).loc main_arg2)
abbrev wd (c : Dev nD) : FVec Ideal S4096x1024 .f32 := m ((c : Thread nD τ).loc main_arg3)

/-- The reference's normed activations on device `c`. -/
abbrev M (c : Dev nD) : FVec Ideal S4096x1024 .f32 := val_main_v11 (F := Ideal) (h1 m c) (g m c)

/-- The reference's hidden units before the square on device `c`. -/
abbrev U (c : Dev nD) : FVec Ideal S4096x4096 .f32 := val_main_v12 (F := Ideal) (h1 m c) (g m c) (wu m c)

theorem blk0 (c : Dev nD) (t : Fin cfg0.N) (r : Fin 1024) (k : Fin 1024) :
    iblk m c 0 t (ix2 r k) = h1 m c (ix2 (row t r) k) := by
  blk_point [iblk, V, idx t]

/-- The block of window 0, as a function of its index. -/
theorem whole0 (c : Dev nD) (t : Fin cfg0.N) : (iblk m c 0 t : FVec Ideal S1024x1024 .f32) = fun i => h1 m c (ix2 (row t (i 0)) (i 1)) :=
  funext fun i => (congrArg (iblk m c 0 t : FVec Ideal S1024x1024 .f32) (ix2_eta i).symm).trans (blk0 m c t (i 0) (i 1))

theorem blk1 (c : Dev nD) (t : Fin cfg0.N) (r : Fin 1) (k : Fin 1024) :
    iblk m c 1 t (ix2 r k) = g m c (ix2 r k) := by
  blk_point [iblk, V, idx t]

/-- The block of window 1, as a function of its index. -/
theorem whole1 (c : Dev nD) (t : Fin cfg0.N) : (iblk m c 1 t : FVec Ideal S1x1024 .f32) = fun i => g m c (ix2 (i 0) (i 1)) :=
  funext fun i => (congrArg (iblk m c 1 t : FVec Ideal S1x1024 .f32) (ix2_eta i).symm).trans (blk1 m c t (i 0) (i 1))

theorem blk2 (c : Dev nD) (t : Fin cfg0.N) (j : Fin 1) (r : Fin 1024) (k : Fin 1024) :
    iblk m c 2 t (ix3 j r k) = wu m c (ix2 r (unit t k)) := by
  blk_point [iblk, V, idx t]

/-- The block of window 2, as a function of its index. -/
theorem whole2 (c : Dev nD) (t : Fin cfg0.N) : (iblk m c 2 t : FVec Ideal S1x1024x1024 .bf16) = fun i => wu m c (ix2 (i 1) (unit t (i 2))) :=
  funext fun i => (congrArg (iblk m c 2 t : FVec Ideal S1x1024x1024 .bf16) (ix3_eta i).symm).trans (blk2 m c t (i 0) (i 1) (i 2))

theorem blk3 (c : Dev nD) (t : Fin cfg0.N) (j : Fin 1) (r : Fin 1024) (k : Fin 1024) :
    iblk m c 3 t (ix3 j r k) = wd m c (ix2 (unit t r) k) := by
  blk_point [iblk, V, idx t]

/-- The block of window 3, as a function of its index. -/
theorem whole3 (c : Dev nD) (t : Fin cfg0.N) : (iblk m c 3 t : FVec Ideal S1x1024x1024 .bf16) = fun i => wd m c (ix2 (unit t (i 1)) (i 2)) :=
  funext fun i => (congrArg (iblk m c 3 t : FVec Ideal S1x1024x1024 .bf16) (ix3_eta i).symm).trans (blk3 m c t (i 0) (i 1) (i 2))

/-- The body's normed activations are the reference's. -/
theorem pay1 (c : Dev nD) (t : Fin cfg0.N) :
    k0_pay1 (F := Ideal) (iblk m c 0 t) (iblk m c 1 t) = fun i => M m c (ix2 (row t (i 0)) (i 1)) := by
  funext i
  obtain ⟨r, k, rfl⟩ : ∃ r k, i = ix2 r k := ⟨i 0, i 1, (ix2_eta i).symm⟩
  rw [show (iblk m c 0 t : FVec Ideal S1024x1024 .f32) = _ from whole0 m c t, show (iblk m c 1 t : FVec Ideal S1x1024 .f32) = _ from whole1 m c t]
  pointwise [k0_pay1, val_main_v11, val_main_v10, val_main_v9, val_main_v8, val_main_v7, val_main_v6, val_main_v5, val_main_v4, val_main_v3, val_main_v2, val_main_v1, val_main_v0, val_main_cst, val_main_cst_0, val_main_cst_1]

/-- The body's hidden units are the reference's. -/
theorem pay3 (c : Dev nD) (t : Fin cfg0.N) :
    k0_pay3 (F := Ideal) (fun i => M m c (ix2 (row t (i 0)) (i 1))) (iblk m c 2 t) = fun i => U m c (ix2 (row t (i 0)) (unit t (i 1))) := by
  funext i
  obtain ⟨r, k, rfl⟩ : ∃ r k, i = ix2 r k := ⟨i 0, i 1, (ix2_eta i).symm⟩
  rw [show (iblk m c 2 t : FVec Ideal S1x1024x1024 .bf16) = _ from whole2 m c t]
  generalize hv : M m c = v
  have hv' : val_main_v11 (F := Ideal) (h1 m c) (g m c) = v := hv
  pointwise [k0_pay3, k0_pay2, val_main_v12]
  simp only [hv']

/-- One block of hidden units of the second product. -/
noncomputable def part (c : Dev nD) (t : Fin cfg0.N) (y : S1024x1024.Idx) : EReal :=
  ∑ x : Fin 1024, val_main_v14 (F := Ideal) (h1 m c) (g m c) (wu m c) (ix2 (row t (y 0)) (unit t x)) * wd m c (ix2 (unit t x) (y 1))

/-- The body adds one block of hidden units to the sum. -/
theorem pay4 (S : FVec Ideal S1024x1024 .f32) (c : Dev nD) (t : Fin cfg0.N) (y : S1024x1024.Idx) :
    k0_pay4 (F := Ideal) (fun i => M m c (ix2 (row t (i 0)) (i 1))) (iblk m c 2 t) S (iblk m c 3 t) y = S y + part m c t y := by
  obtain ⟨r, k, rfl⟩ : ∃ r k, y = ix2 r k := ⟨y 0, y 1, (ix2_eta y).symm⟩
  have e : k0_pay2 (F := Ideal) (fun i => M m c (ix2 (row t (i 0)) (i 1))) (iblk m c 2 t) = fun i => U m c (ix2 (row t (i 0)) (unit t (i 1))) := pay3 m c t
  unfold k0_pay4
  rw [e, show (iblk m c 3 t : FVec Ideal S1x1024x1024 .bf16) = _ from whole3 m c t]
  pointwise [part, val_main_v14, val_main_v13, val_main_call0_v0, val_main_call0_cst]

theorem norm_A (c : Dev nD) (t : Fin cfg0.N) (h0 : t.val % 4 = 0) :
    (outsAt0 m c t.val t.isLt).2.2 = k0_pay1 (F := Ideal) (iblk m c 0 t) (iblk m c 1 t) := by
  rw [outsAt0_A m c t h0]
  frame_out

theorem norm_B (c : Dev nD) (t : Fin cfg0.N) (h0 : ¬t.val % 4 = 0) :
    (outsAt0 m c t.val t.isLt).2.2 = (outsAt0 m c (t.val - 1) (Nat.lt_of_le_of_lt (Nat.sub_le _ _) t.isLt)).2.2 := by
  rw [outsAt0_B m c t h0]
  rfl

theorem hid_A (c : Dev nD) (t : Fin cfg0.N) (h0 : t.val % 4 = 0) :
    (outsAt0 m c t.val t.isLt).2.1 = k0_pay3 (F := Ideal) (k0_pay1 (F := Ideal) (iblk m c 0 t) (iblk m c 1 t)) (iblk m c 2 t) := by
  rw [outsAt0_A m c t h0]
  frame_out

theorem hid_B (c : Dev nD) (t : Fin cfg0.N) (h0 : ¬t.val % 4 = 0) :
    (outsAt0 m c t.val t.isLt).2.1 = k0_pay3 (F := Ideal) (outsAt0 m c (t.val - 1) (Nat.lt_of_le_of_lt (Nat.sub_le _ _) t.isLt)).2.2 (iblk m c 2 t) := by
  rw [outsAt0_B m c t h0]
  frame_out

theorem sum_A (c : Dev nD) (t : Fin cfg0.N) (h0 : t.val % 4 = 0) :
    (outsAt0 m c t.val t.isLt).1 = k0_pay4 (F := Ideal) (k0_pay1 (F := Ideal) (iblk m c 0 t) (iblk m c 1 t)) (iblk m c 2 t) (iblk m c 0 t) (iblk m c 3 t) := by
  rw [outsAt0_A m c t h0]
  frame_out

theorem sum_B (c : Dev nD) (t : Fin cfg0.N) (h0 : ¬t.val % 4 = 0) :
    (outsAt0 m c t.val t.isLt).1 = k0_pay4 (F := Ideal) (outsAt0 m c (t.val - 1) (Nat.lt_of_le_of_lt (Nat.sub_le _ _) t.isLt)).2.2 (iblk m c 2 t) (outsAt0 m c (t.val - 1) (Nat.lt_of_le_of_lt (Nat.sub_le _ _) t.isLt)).1 (iblk m c 3 t) := by
  rw [outsAt0_B m c t h0]
  frame_out

/-- The normed activations stay in their buffer for all four blocks of hidden units. -/
theorem norm (c : Dev nD) : ∀ (n : ℕ) (t : Fin cfg0.N), t.val = n → (outsAt0 m c t.val t.isLt).2.2 = fun i => M m c (ix2 (row t (i 0)) (i 1)) := by
  intro n
  induction n with
  | zero => intro t ht; exact (norm_A m c t (by omega)).trans (pay1 m c t)
  | succ n ih =>
    intro t ht
    by_cases h0 : t.val % 4 = 0
    · exact (norm_A m c t h0).trans (pay1 m c t)
    · refine (norm_B m c t h0).trans ((ih ⟨t.val - 1, Nat.lt_of_le_of_lt (Nat.sub_le _ _) t.isLt⟩ (by dsimp only; omega)).trans ?_)
      have e : (t.val - 1) / 4 = t.val / 4 := by omega
      funext i
      exact congrArg (fun r => M m c (ix2 r (i 1))) (Fin.ext (by simp only [row, e]))

/-- So a later block of hidden units finds the normed activations of its rows. -/
theorem found (c : Dev nD) (t : Fin cfg0.N) (h0 : ¬t.val % 4 = 0) :
    (outsAt0 m c (t.val - 1) (Nat.lt_of_le_of_lt (Nat.sub_le _ _) t.isLt)).2.2 = fun i => M m c (ix2 (row t (i 0)) (i 1)) :=
  (norm_B m c t h0).symm.trans (norm m c _ t rfl)

/-- The hidden units after every grid point. -/
theorem hid (c : Dev nD) (t : Fin cfg0.N) :
    (outsAt0 m c t.val t.isLt).2.1 = fun i => U m c (ix2 (row t (i 0)) (unit t (i 1))) := by
  refine Eq.trans ?_ (pay3 m c t)
  by_cases h0 : t.val % 4 = 0
  · rw [hid_A m c t h0, pay1]
  · rw [hid_B m c t h0, found m c t h0]

/-- The first block of hidden units starts from the residual stream. -/
theorem sum_first (c : Dev nD) (t : Fin cfg0.N) (h0 : t.val % 4 = 0) (y : S1024x1024.Idx) :
    (outsAt0 m c t.val t.isLt).1 y = h1 m c (ix2 (row t (y 0)) (y 1)) + part m c t y := by
  rw [sum_A m c t h0, pay1, pay4, show (iblk m c 0 t : FVec Ideal S1024x1024 .f32) = _ from whole0 m c t]

/-- A later block adds its part. -/
theorem sum_next (c : Dev nD) (t : Fin cfg0.N) (h0 : ¬t.val % 4 = 0) (y : S1024x1024.Idx) :
    (outsAt0 m c t.val t.isLt).1 y = (outsAt0 m c (t.val - 1) (Nat.lt_of_le_of_lt (Nat.sub_le _ _) t.isLt)).1 y + part m c t y := by
  rw [sum_B m c t h0, found m c t h0, pay4]

/-- After the last block of hidden units the sum is complete. -/
theorem total (c : Dev nD) (t : Fin cfg0.N) (h3 : t.val % 4 = 3) :
    (outsAt0 m c t.val t.isLt).1 = fun i => val_main_v16 (F := Ideal) (h1 m c) (g m c) (wu m c) (wd m c) (ix2 (row t (i 0)) (i 1)) := by
  funext y
  have b1 : t.val - 1 < cfg0.N := by have := t.isLt; omega
  have b2 : t.val - 1 - 1 < cfg0.N := by have := t.isLt; omega
  have b3 : t.val - 1 - 1 - 1 < cfg0.N := by have := t.isLt; omega
  have s3 := sum_next m c t (by omega) y
  have s2 := sum_next m c ⟨t.val - 1, b1⟩ (by dsimp only; omega) y
  have s1 := sum_next m c ⟨t.val - 1 - 1, b2⟩ (by dsimp only; omega) y
  have s0 := sum_first m c ⟨t.val - 1 - 1 - 1, b3⟩ (by dsimp only; omega) y
  dsimp only at s2 s1 s0
  rw [s3, s2, s1, s0]
  obtain ⟨r, k, rfl⟩ : ∃ r k, y = ix2 r k := ⟨y 0, y 1, (ix2_eta y).symm⟩
  generalize hv : val_main_v14 (F := Ideal) (h1 m c) (g m c) (wu m c) = v
  pointwise [part, val_main_v16, val_main_v15]
  simp only [hv]
  have e1 : (t.val - 1) / 4 = t.val / 4 := by omega
  have e2 : (t.val - 1 - 1) / 4 = t.val / 4 := by omega
  have e3 : (t.val - 1 - 1 - 1) / 4 = t.val / 4 := by omega
  have f0 : t.val % 4 = 3 := h3
  have f1 : (t.val - 1) % 4 = 2 := by omega
  have f2 : (t.val - 1 - 1) % 4 = 1 := by omega
  have f3 : (t.val - 1 - 1 - 1) % 4 = 0 := by omega
  rw [← Fin.sum_mul_add_congr (S := 4) (n := 1024) (F := fun s x => v (ix2 (row t r) ⟨s.val * 1024 + x.val, by omega⟩) * wd m c (ix2 ⟨s.val * 1024 + x.val, by omega⟩ k)) (f := fun x : Fin 4096 => v (ix2 (row t r) x) * wd m c (ix2 x k)) (fun s x hl => rfl)]
  simp only [row, unit, e1, e2, e3, f0, f1, f2, f3]
  rw [Fin.sum_univ_four, add_assoc, add_assoc, add_assoc, ← add_assoc (∑ _, _), ← add_assoc (∑ _, _ + ∑ _, _)]
  rfl

/-- The residual stream after the MLP, float32. -/
theorem final4 (c : Dev nD) : (dats m 0 c).arrAt 4 (cfgs 0).N = val_main_v16 (F := Ideal) (h1 m c) (g m c) (wu m c) (wd m c) := by
  refine (dats m 0 c).arrAt_eq_of_covers 4 _ (by decide +kernel) fun t hf y => ?_
  have h3 := (flush0_4 t).mp hf
  blk_simp
  rw [after0_4, total m c t h3]
  blk_point [idx t]

/-- The hidden units before the square, rounded to bfloat16. -/
theorem final5 (c : Dev nD) : (dats m 0 c).arrAt 5 (cfgs 0).N = val_main_v17 (F := Ideal) (h1 m c) (g m c) (wu m c) := by
  refine (dats m 0 c).arrAt_eq_of_covers 5 _ (by decide +kernel) fun t hf y => ?_
  have e : val_main_v17 (F := Ideal) (h1 m c) (g m c) (wu m c) = U m c := rfl
  blk_simp
  rw [after0_5, hid, e]
  blk_point [idx t]

/-- The normed activations, rounded to bfloat16. -/
theorem final6 (c : Dev nD) : (dats m 0 c).arrAt 6 (cfgs 0).N = val_main_v18 (F := Ideal) (h1 m c) (g m c) := by
  refine (dats m 0 c).arrAt_eq_of_covers 6 _ (by decide +kernel) fun t hf y => ?_
  have e : val_main_v18 (F := Ideal) (h1 m c) (g m c) = M m c := rfl
  blk_simp
  rw [after0_6, norm m c _ t rfl, e]
  blk_point [idx t]

end Cert.MlpFwd
end
-- ==== Proof.MlpFwdRounded.lean ====
module

public import proofs.«01_k».proof.Defs
public import proofs.«01_k».proof.Proof.MlpFwdFrame
public import proofs.«01_k».proof.Proof.Gen.Kernel8.Frame

/-!
# The rounded program of `mlp_fwd`

The rounded program and the one over the reals have the same text: no operation is replaced between
them. So the run of `MlpFwdFrame`, which holds over any float values, is the run of both. What is left
to say is that the two body tables are the same table.
-/

@[expose] public section

set_option maxRecDepth 65536
set_option maxHeartbeats 2000000

noncomputable section

namespace Cert.MlpFwd

open Idealize.ShloMosaic

variable {F : FTy → Type} [FloatOps F]

/-- The kernel bodies of the two programs are the same, label by label. -/
theorem bodies_eq : Cert.Kernel8.defs₀ (F := F) = Cert.Kernel8Ideal.defs₀ := by
  unfold Cert.Kernel8.defs₀ Cert.Kernel8Ideal.defs₀
  refine congrArg (Defs.onTc (nD := Cert.Kernel8.nD) (τ := Cert.Kernel8.τ) (sig := Cert.Kernel8.sig) (Λ := Cert.Kernel8.Λ₀)) ?_
  funext l x
  match l, x with
  | 0, (t, s) => rfl

/-- The body tables with the pipeline's regions are the same. -/
theorem table_eq : Cert.Kernel8.defs (F := F) = Cert.Kernel8Ideal.defs :=
  congrArg (Pipeline.defs (Cert.Kernel8.pcfgs (F := F))) bodies_eq

/-- The rounded program runs to its end and leaves its arguments. -/
theorem frame_rounded : Cert.quiescent_Kernel8 (hKernel8 := Cert.Kernel8.Gen.facts) := fun m g _ => by
  rw [table_eq]
  exact frame (F := Bits) m g

end Cert.MlpFwd

end
-- ==== Proof.WOut.lean ====
/- The gradient of w_out and of w_ple_gate: the two arrays the weight-gradient call leaves are the reference's product. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

namespace Cert.WOut

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

open Cert.Reference10Ideal.Read

/-- Which block each window holds at grid point `t`. -/
theorem idx : ∀ t : Fin cfg0.N, win0_0.index t = ![0, 0] ∧ win0_1.index t = ![0, 0] ∧ win0_2.index t = ![0, 0, 0] ∧ win0_3.index t = ![0, 0, 0] :=
  (by decide +kernel : ∀ t : Fin grid0.N, _)

/-- The gradient in float32. -/
theorem final2 (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v0, val_main_v1, val_main_v2, val_main_v3, val_main_v4, val_main_v5]
  refine (Finset.sum_congr rfl fun k _ => mul_comm (G := EReal) _ _).trans ?_
  blk_point [iblk, V, idx t]

/-- The gradient rounded to bfloat16. -/
theorem final3 (c : Dev nD) : (dats m 0 c).arrAt 3 (cfgs 0).N
    = val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay3, k0_pay2, k0_pay1, val_main_v0, val_main_v1, val_main_v2, val_main_v3, val_main_v4, val_main_v5]
  refine (Finset.sum_congr rfl fun k _ => mul_comm (G := EReal) _ _).trans ?_
  blk_point [iblk, V, idx t]

end Cert.WOut
end
-- ==== Proof.WProj.lean ====
/- The gradient of w_ple_proj: the two arrays the weight-gradient call leaves are the reference's product. -/
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise
public import Idealize.ShloMosaic.Lib.Claim

@[expose] public section

set_option maxRecDepth 16384

noncomputable section

namespace Cert.WProj

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

open Cert.Reference11Ideal.Read

/-- Which block each window holds at grid point `t`. -/
theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

/-- The gradient in float32. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  pointwise [k0_pay2, k0_pay1, val_main_v0, val_main_v1, val_main_v2, val_main_v3, val_main_v4, val_main_v5, val_main_v6]
  refine (Finset.sum_congr rfl fun k _ => mul_comm (G := EReal) _ _).trans ?_
  blk_point [iblk, V, idx t]

/-- The gradient rounded to bfloat16. -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  pointwise [k0_pay3, k0_pay2, k0_pay1, val_main_v0, val_main_v1, val_main_v2, val_main_v3, val_main_v4, val_main_v5, val_main_v6]
  refine (Finset.sum_congr rfl fun k _ => mul_comm (G := EReal) _ _).trans ?_
  blk_point [iblk, V, idx t]

end Cert.WProj
end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.MlpBwd
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.WDown
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.WUp
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.WIn
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.InProjBwd
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Tail
public import proofs.«01_k».proof.Proof.Gen.Kernel8.Frame
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Reference8Ideal.Run
public import proofs.«01_k».proof.Proof.Gen.Reference8Ideal.Read
public import proofs.«01_k».proof.Proof.MlpFwd
public import proofs.«01_k».proof.Proof.MlpFwdRounded
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.WOut
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.WProj
public import proofs.«01_k».proof.Proof.Gen.Kernel12.Frame
public import proofs.«01_k».proof.Proof.Gen.Kernel12Ideal.Frame
public import proofs.«01_k».proof.Proof.Gen.Kernel13.Frame
public import proofs.«01_k».proof.Proof.Gen.Kernel13Ideal.Frame
public import proofs.«01_k».proof.Proof.Gen.Kernel14.Frame
public import proofs.«01_k».proof.Proof.Gen.Kernel14Ideal.Frame
public import Idealize.ShloMosaic.Lib.Claim
public import Idealize.ShloMosaic.Adequacy
public import Idealize.ShloMosaic.Init

@[expose] public section

set_option maxRecDepth 65536

noncomputable section

namespace Cert.Proof

open Idealize.ShloMosaic Idealize.SL.Sem

/-- Equal arguments, equal values. -/
theorem congr1 {A R : Type*} (f : A → R) {a a' : A} (e : a = a') : f a = f a' := e ▸ rfl
theorem congr2 {A B R : Type*} (f : A → B → R) {a a' : A} {b b' : B} (e : a = a') (e2 : b = b') : f a b = f a' b' := by subst e e2; rfl
theorem congr7 {A B C D E G H R : Type*} (f : A → B → C → D → E → G → H → R) {a a' : A} {b b' : B} {c c' : C} {d d' : D} {x x' : E} {y y' : G} {z z' : H}
    (e1 : a = a') (e2 : b = b') (e3 : c = c') (e4 : d = d') (e5 : x = x') (e6 : y = y') (e7 : z = z') : f a b c d x y z = f a' b' c' d' x' y' z' := by
  subst e1 e2 e3 e4 e5 e6 e7
  rfl

/-- The reference of `kernel2` runs and leaves its arguments. -/
theorem reference2 : Cert.quiescent_Reference2Ideal (hReference2Ideal := Cert.Reference2Ideal.Gen.facts) := by
  intro m g _
  exact (θ_run _ _ _).mono (fun r h => ⟨fun c => (h c).2.2.2.2, sem_eq_zero_of_no_sems (by decide) r.2⟩)
    (Cert.Reference2Ideal.Value.run m g)

set_option maxHeartbeats 4000000 in
/-- `kernel2` computes what its reference computes, over the reals. -/
theorem value2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · refine (θ_run _ _ _).mono (fun r h c => ⟨(h c).1.trans ?_, (h c).2.1.trans ?_, (h c).2.2.1.trans ?_, (h c).2.2.2.1.trans ?_, (h c).2.2.2.2⟩) (Cert.Reference2Ideal.Value.run m' g')
    · refine (Cert.Reference2Ideal.Read.val_main_v50_eq m' c).trans ?_
      clear h
      rw [(hagree c).1, (hagree c).2.1, (hagree c).2.2.1, (hagree c).2.2.2.1, (hagree c).2.2.2.2]
      exact (Cert.MlpBwd.final7 m c).symm
    · refine (Cert.Reference2Ideal.Read.val_main_v52_eq m' c).trans ?_
      clear h
      rw [(hagree c).1, (hagree c).2.1, (hagree c).2.2.1, (hagree c).2.2.2.1, (hagree c).2.2.2.2]
      exact (Cert.MlpBwd.final8 m c).symm
    · refine (Cert.Reference2Ideal.Read.val_main_v53_eq _ _ _ _ _).trans ?_
      clear h
      rw [(hagree c).1, (hagree c).2.1, (hagree c).2.2.1, (hagree c).2.2.2.1, (hagree c).2.2.2.2]
      exact (Cert.MlpBwd.final9 m c).symm
    · refine (Cert.Reference2Ideal.Read.val_main_v33_eq _ _ _ _ _).trans ?_
      clear h
      rw [(hagree c).1, (hagree c).2.1, (hagree c).2.2.1, (hagree c).2.2.2.1, (hagree c).2.2.2.2]
      exact (Cert.MlpBwd.final10 m c).symm

/-- The reference of `kernel3` runs and leaves its arguments. -/
theorem reference3 : Cert.quiescent_Reference3Ideal (hReference3Ideal := Cert.Reference3Ideal.Gen.facts) := by
  intro m g _
  exact (θ_run _ _ _).mono (fun r h => ⟨fun c => (h c).2.2, sem_eq_zero_of_no_sems (by decide) r.2⟩)
    (Cert.Reference3Ideal.Value.run m g)

/-- `kernel3` computes what its reference computes, over the reals. -/
theorem value3 : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    · exact (Cert.WDown.final2 m c).symm
    · exact (Cert.WDown.final3 m c).symm

/-- The reference of `kernel4` runs and leaves its arguments. -/
theorem reference4 : Cert.quiescent_Reference4Ideal (hReference4Ideal := Cert.Reference4Ideal.Gen.facts) := by
  intro m g _
  exact (θ_run _ _ _).mono (fun r h => ⟨fun c => (h c).2.2, sem_eq_zero_of_no_sems (by decide) r.2⟩)
    (Cert.Reference4Ideal.Value.run m g)

/-- `kernel4` computes what its reference computes, over the reals. -/
theorem value4 : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    · exact (Cert.WUp.final2 m c).symm
    · exact (Cert.WUp.final3 m c).symm

/-- The reference of `kernel5` runs and leaves its arguments. -/
theorem reference5 : Cert.quiescent_Reference5Ideal (hReference5Ideal := Cert.Reference5Ideal.Gen.facts) := by
  intro m g _
  exact (θ_run _ _ _).mono (fun r h => ⟨fun c => (h c).2, sem_eq_zero_of_no_sems (by decide) r.2⟩)
    (Cert.Reference5Ideal.Value.run m g)

/-- `kernel5` computes what its reference computes, over the reals. -/
theorem value5 : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · run_from Cert.Reference5Ideal.Value.run m' g'
    · exact (Cert.WIn.final5 m c).symm

/-- The reference of `kernel6` runs and leaves its arguments. -/
theorem reference6 : Cert.quiescent_Reference6Ideal (hReference6Ideal := Cert.Reference6Ideal.Gen.facts) := by
  intro m g _
  exact (θ_run _ _ _).mono (fun r h => ⟨fun c => (h c).2.2, sem_eq_zero_of_no_sems (by decide) r.2⟩)
    (Cert.Reference6Ideal.Value.run m g)

set_option maxHeartbeats 4000000 in
/-- `kernel6` computes what its reference computes, over the reals. -/
theorem value6 : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · refine (θ_run _ _ _).mono (fun r h c => ⟨(h c).1.trans ?_, (h c).2.1.trans ?_, (h c).2.2⟩) (Cert.Reference6Ideal.Value.run m' g')
    · refine (Cert.Reference6Ideal.Read.val_main_v36_eq m' c).trans ?_
      clear h
      rw [(hagree c).1, (hagree c).2.1, (hagree c).2.2.1, (hagree c).2.2.2.1, (hagree c).2.2.2.2]
      exact (Cert.InProjBwd.final8 m c).symm
    · refine (Cert.Reference6Ideal.Read.val_main_v19_eq _ _ _).trans ?_
      clear h
      rw [(hagree c).1, (hagree c).2.2.1, (hagree c).2.2.2.2]
      exact (Cert.InProjBwd.final9 m c).symm

/-- The reference of `kernel7` runs and leaves its arguments. -/
theorem reference7 : Cert.quiescent_Reference7Ideal (hReference7Ideal := Cert.Reference7Ideal.Gen.facts) := by
  intro m g _
  exact (θ_run _ _ _).mono (fun r h => ⟨fun c => (h c).2.2.2.2.2.2.2.2.2, sem_eq_zero_of_no_sems (by decide) r.2⟩)
    (Cert.Reference7Ideal.Value.run m g)

set_option maxHeartbeats 4000000 in
/-- `kernel7` computes what its reference computes, over the reals. -/
theorem value7 : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference7Ideal.Value.run m' g')
    · exact (Cert.Reference7Ideal.Read.val_main_v100_eq (StableHlo.launchContents m' c)).trans ((congr7 (Cert.Reference7Ideal.Read.val_main_v100 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final7 m c).symm)
    · exact (Cert.Reference7Ideal.Read.val_main_v101_eq (StableHlo.launchContents m' c)).trans ((congr7 (Cert.Reference7Ideal.Read.val_main_v101 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final8 m c).symm)
    · exact (Cert.Reference7Ideal.Read.val_main_v102_eq (StableHlo.launchContents m' c)).trans ((congr2 (Cert.Reference7Ideal.Read.val_main_v102 (F := Ideal)) ((hagree c).1) ((hagree c).2.2.2.1)).trans (Cert.Tail.final9 m c).symm)
    · exact (Cert.Reference7Ideal.Read.val_main_v103_eq (StableHlo.launchContents m' c)).trans ((congr7 (Cert.Reference7Ideal.Read.val_main_v103 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final10 m c).symm)
    · exact (Cert.Reference7Ideal.Read.val_main_v104_eq (StableHlo.launchContents m' c)).trans ((congr7 (Cert.Reference7Ideal.Read.val_main_v104 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final11 m c).symm)
    · exact (Cert.Reference7Ideal.Read.val_main_v105_eq (StableHlo.launchContents m' c)).trans ((congr1 (Cert.Reference7Ideal.Read.val_main_v105 (F := Ideal)) ((hagree c).2.1)).trans (Cert.Tail.final12 m c).symm)
    · exact (Cert.Reference7Ideal.Read.val_main_v83_eq (StableHlo.launchContents m' c)).trans ((congr7 (Cert.Reference7Ideal.Read.val_main_v83 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final13 m c).symm)
    · exact (Cert.Reference7Ideal.Read.val_main_v60_eq (StableHlo.launchContents m' c)).trans ((congr7 (Cert.Reference7Ideal.Read.val_main_v60 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final14 m c).symm)
    · exact (Cert.Reference7Ideal.Read.val_main_v106_eq (StableHlo.launchContents m' c)).trans ((congr7 (Cert.Reference7Ideal.Read.val_main_v106 (F := Ideal)) ((hagree c).1) ((hagree c).2.1) ((hagree c).2.2.1) ((hagree c).2.2.2.1) ((hagree c).2.2.2.2.1) ((hagree c).2.2.2.2.2.1) ((hagree c).2.2.2.2.2.2)).trans (Cert.Tail.final15 m c).symm)

/-- The reference of `kernel8` runs and leaves its arguments. -/
theorem reference8 : Cert.quiescent_Reference8Ideal (hReference8Ideal := Cert.Reference8Ideal.Gen.facts) := by
  intro m g _
  exact (θ_run _ _ _).mono (fun r h => ⟨fun c => (h c).2.2.2, sem_eq_zero_of_no_sems (by decide) r.2⟩)
    (Cert.Reference8Ideal.Value.run m g)

set_option maxHeartbeats 4000000 in
/-- `kernel8` computes what its reference computes, over the reals. -/
theorem value8 : Cert.algebraic_Kernel8Ideal_Reference8Ideal (hKernel8Ideal := Cert.Kernel8Ideal.Gen.facts) (hReference8Ideal := Cert.Reference8Ideal.Gen.facts) := by
  pair_intro
  · run_from Cert.MlpFwd.run_main m g
  · refine (θ_run _ _ _).mono (fun r h c => ⟨(h c).1.trans ?_, (h c).2.1.trans ?_, (h c).2.2.1.trans ?_, (h c).2.2.2⟩) (Cert.Reference8Ideal.Value.run m' g')
    · refine (Cert.Reference8Ideal.Read.val_main_v16_eq _ _ _ _).trans ?_
      clear h
      rw [(hagree c).1, (hagree c).2.1, (hagree c).2.2.1, (hagree c).2.2.2]
      exact (Cert.MlpFwd.final4 m c).symm
    · refine (Cert.Reference8Ideal.Read.val_main_v17_eq _ _ _).trans ?_
      clear h
      rw [(hagree c).1, (hagree c).2.1, (hagree c).2.2.1]
      exact (Cert.MlpFwd.final5 m c).symm
    · refine (Cert.Reference8Ideal.Read.val_main_v18_eq _ _).trans ?_
      clear h
      rw [(hagree c).1, (hagree c).2.1]
      exact (Cert.MlpFwd.final6 m c).symm

/-- The reference of `kernel10` runs and leaves its arguments. -/
theorem reference10 : Cert.quiescent_Reference10Ideal (hReference10Ideal := Cert.Reference10Ideal.Gen.facts) := by
  intro m g _
  exact (θ_run _ _ _).mono (fun r h => ⟨fun c => (h c).2.2, sem_eq_zero_of_no_sems (by decide) r.2⟩)
    (Cert.Reference10Ideal.Value.run m g)

/-- `kernel10` computes what its reference computes, over the reals. -/
theorem value10 : Cert.algebraic_Kernel10Ideal_Reference10Ideal (hKernel10Ideal := Cert.Kernel10Ideal.Gen.facts) (hReference10Ideal := Cert.Reference10Ideal.Gen.facts) := by
  pair_intro
  · run_from Cert.Kernel10Ideal.Gen.run_main m g
  · run_from Cert.Reference10Ideal.Value.run m' g'
    · exact (Cert.WOut.final2 m c).symm
    · exact (Cert.WOut.final3 m c).symm

/-- The reference of `kernel11` runs and leaves its arguments. -/
theorem reference11 : Cert.quiescent_Reference11Ideal (hReference11Ideal := Cert.Reference11Ideal.Gen.facts) := by
  intro m g _
  exact (θ_run _ _ _).mono (fun r h => ⟨fun c => (h c).2.2, sem_eq_zero_of_no_sems (by decide) r.2⟩)
    (Cert.Reference11Ideal.Value.run m g)

/-- `kernel11` computes what its reference computes, over the reals. -/
theorem value11 : Cert.algebraic_Kernel11Ideal_Reference11Ideal (hKernel11Ideal := Cert.Kernel11Ideal.Gen.facts) (hReference11Ideal := Cert.Reference11Ideal.Gen.facts) := by
  pair_intro
  · run_from Cert.Kernel11Ideal.Gen.run_main m g
  · run_from Cert.Reference11Ideal.Value.run m' g'
    · exact (Cert.WProj.final2 m c).symm
    · exact (Cert.WProj.final3 m c).symm

theorem claim : Cert.Claim := ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Kernel13.Gen.facts, Cert.Kernel13Ideal.Gen.facts, Cert.Kernel14.Gen.facts, Cert.Kernel14Ideal.Gen.facts,
  fun m g _ => Cert.Kernel2.Gen.frame m g, fun m g _ => Cert.Kernel2Ideal.Gen.frame m g, reference2,
  fun m g _ => Cert.Kernel3.Gen.frame m g, fun m g _ => Cert.Kernel3Ideal.Gen.frame m g, reference3,
  fun m g _ => Cert.Kernel4.Gen.frame m g, fun m g _ => Cert.Kernel4Ideal.Gen.frame m g, reference4,
  fun m g _ => Cert.Kernel5.Gen.frame m g, fun m g _ => Cert.Kernel5Ideal.Gen.frame m g, reference5,
  fun m g _ => Cert.Kernel6.Gen.frame m g, fun m g _ => Cert.Kernel6Ideal.Gen.frame m g, reference6,
  fun m g _ => Cert.Kernel7.Gen.frame m g, fun m g _ => Cert.Kernel7Ideal.Gen.frame m g, reference7,
  Cert.MlpFwd.frame_rounded, fun m g _ => Cert.MlpFwd.frame m g, reference8,
  fun m g _ => Cert.Kernel9.Gen.frame m g, fun m g _ => Cert.Kernel9Ideal.Gen.frame m g,
  fun m g _ => Cert.Kernel10.Gen.frame m g, fun m g _ => Cert.Kernel10Ideal.Gen.frame m g, reference10,
  fun m g _ => Cert.Kernel11.Gen.frame m g, fun m g _ => Cert.Kernel11Ideal.Gen.frame m g, reference11,
  fun m g _ => Cert.Kernel12.Gen.frame m g, fun m g _ => Cert.Kernel12Ideal.Gen.frame m g,
  fun m g _ => Cert.Kernel13.Gen.frame m g, fun m g _ => Cert.Kernel13Ideal.Gen.frame m g,
  fun m g _ => Cert.Kernel14.Gen.frame m g, fun m g _ => Cert.Kernel14Ideal.Gen.frame m g,
  trivial, value2,
  trivial, value3,
  trivial, value4,
  trivial, value5,
  trivial, value6,
  trivial, value7,
  trivial, value8,
  trivial,
  trivial, value10,
  trivial, value11,
  trivial,
  trivial,
  trivial⟩

end Cert.Proof

end
